-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S8192x2048 : Shape := ⟨2, ![8192, 2048]⟩
abbrev S6 : Shape := ⟨1, ![6]⟩
abbrev S_ : Shape := ⟨0, ![]⟩
abbrev S1 : Shape := ⟨1, ![1]⟩
abbrev S1024x1024 : Shape := ⟨2, ![1024, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S8192x2048, .bf16⟩
  | .local _ .vmem, ⟨0, _⟩ => ⟨S2048x1024, .bf16⟩
  | .local _ .vmem, ⟨1, _⟩ => ⟨S1024x2048, .bf16⟩
  | .local _ .vmem, ⟨2, _⟩ => ⟨S8192x2048, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_14 : BitVec 32 := 1#32
  let v15 : BitVec 32 := Scalar.muli v7 c1_i32_14
  let v16 : BitVec 32 := Scalar.addi c0_i32_15 v15
  v16.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_22 : BitVec 32 := 1#32
  let v23 : BitVec 32 := Scalar.muli v5 c1_i32_22
  let v24 : BitVec 32 := Scalar.addi c0_i32_23 v23
  v24.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_29 : BitVec 32 := 1#32
  let v31 : BitVec 32 := Scalar.muli v7 c1_i32_29
  let v32 : BitVec 32 := Scalar.addi c0_i32_30 v31
  v32.toNat
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_36 : BitVec 32 := 1#32
  let v39 : BitVec 32 := Scalar.muli v5 c1_i32_36
  let v40 : BitVec 32 := Scalar.addi c0_i32_37 v39
  v40.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v49 : BitVec 32 := Scalar.muli v2 c2048_i32
  let v54 : Index := Scalar.indexCast v49
  let c0_45 : Index := 0#32
  ![v54.toNat, 0]
def k0_dev7 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_56 : BitVec 32 := 1#32
  let v62 : BitVec 32 := Scalar.muli v7 c1_i32_56
  let v63 : BitVec 32 := Scalar.addi c0_i32_57 v62
  v63.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_64 : BitVec 32 := 2048#32
  let v71 : BitVec 32 := Scalar.muli v5 c2048_i32_64
  let v76 : Index := Scalar.indexCast v71
  let c0_68 : Index := 0#32
  ![v76.toNat, 0]
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_78 : BitVec 32 := 1#32
  let v84 : BitVec 32 := Scalar.muli v5 c1_i32_78
  let v85 : BitVec 32 := Scalar.addi c0_i32_79 v84
  v85.toNat
def k0_off3 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c2048_i32_85 : BitVec 32 := 2048#32
  let v93 : BitVec 32 := Scalar.muli v7 c2048_i32_85
  let c1024_i32_86 : BitVec 32 := 1024#32
  let v94 : BitVec 32 := Scalar.addi v93 c1024_i32_86
  let v99 : Index := Scalar.indexCast v94
  let c0_90 : Index := 0#32
  ![v99.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_101 : BitVec 32 := 2048#32
  let v108 : BitVec 32 := Scalar.muli v5 c2048_i32_101
  let c1024_i32_102 : BitVec 32 := 1024#32
  let v109 : BitVec 32 := Scalar.addi v108 c1024_i32_102
  let v114 : Index := Scalar.indexCast v109
  let c0_106 : Index := 0#32
  ![v114.toNat, 0]
def k0_off5 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c2048_i32_117 : BitVec 32 := 2048#32
  let v123 : BitVec 32 := Scalar.muli v7 c2048_i32_117
  let v128 : Index := Scalar.indexCast v123
  let c0_121 : Index := 0#32
  ![v128.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .hbm, ⟨3, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Protocol.lean ====
/-
# The exchange between the four devices

Every device holds one block of rows of `A`. It needs the three other blocks. Each block travels in two
halves (rows 0..1023 and rows 1024..2047) over six copies per device: four between neighbours, then two
that pass a half on to the device opposite. This module names the buffers, semaphores and cells of the
exchange, says what every copy carries, gives the schedule of promises behind each semaphore, and orders
the semaphores so that no device waits on another that waits on it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the exchange's rounds, and both libraries' resources together. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any contents, all semaphores at zero. -/
def s₀ : MemSt nD τ sig (Elt F) := ⟨m, fun _ => 0, ρ⟩

/-! ## The ring of devices -/

set_option backward.proofsInPublic true in
/-- The neighbour to the right. -/
def nxt (c : Dev nD) : Dev nD := ⟨(c.val + 1) % 4, Nat.mod_lt _ (by decide)⟩
set_option backward.proofsInPublic true in
/-- The neighbour to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- One step round the ring, as a bijection. -/
def ring : Dev nD ≃ Dev nD := ⟨nxt, prv, prv_nxt, nxt_prv⟩

/-- The device an odd-numbered id computation names is a neighbour. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)

/-- Which way copy `i` goes: `true` to the right. -/
def rightward (i : Fin 6) : Bool := i.val == 0 || i.val == 1 || i.val == 4
/-- The device copy `i` of device `c` lands on, -/
def tgt (i : Fin 6) (c : Dev nD) : Dev nD := if rightward i then nxt c else prv c
/-- and the device whose copy `i` lands on `c`. -/
def org (i : Fin 6) (c : Dev nD) : Dev nD := if rightward i then prv c else nxt c

theorem org_tgt (i : Fin 6) (c : Dev nD) : org i (tgt i c) = c := by revert i c; decide
theorem tgt_org (i : Fin 6) (c : Dev nD) : tgt i (org i c) = c := by revert i c; decide

/-! ## Buffers and halves -/

/-- The device's own block of `A`, the second factor, and the result, as the kernel sees them. -/
abbrev aM : Memref sig .tc .vmem S2048x1024 .bf16 := Memref.whole cc0_stg0_0
abbrev bM : Memref sig .tc .vmem S1024x2048 .bf16 := Memref.whole cc0_stg1_0
abbrev oM : Memref sig .tc .vmem S8192x2048 .bf16 := Memref.whole cc0_stg2_0
/-- Where the blocks of the left neighbour, the right neighbour and the opposite device arrive. -/
abbrev lM : Memref sig .tc .vmem S2048x1024 .bf16 := Memref.whole cc0_scratch0
abbrev rM : Memref sig .tc .vmem S2048x1024 .bf16 := Memref.whole cc0_scratch1
abbrev pM : Memref sig .tc .vmem S2048x1024 .bf16 := Memref.whole cc0_scratch2

/-- Rows 0..1023 of a block (`true`), rows 1024..2047 (`false`). -/
abbrev loR : Rect S2048x1024 := Rect.unit (s := S2048x1024) ![0, 0] S1024x1024.size inb_S2048x1024_S1024x1024_0_0
abbrev hiR : Rect S2048x1024 := Rect.unit (s := S2048x1024) ![1024, 0] S1024x1024.size inb_S2048x1024_S1024x1024_1024_0
abbrev halfR : Bool → Rect S2048x1024 := fun | true => loR | false => hiR

abbrev loM (M : Memref sig .tc .vmem S2048x1024 .bf16) : Memref sig .tc .vmem S1024x1024 .bf16 := M.slice loR (fun _ => rfl)
abbrev hiM (M : Memref sig .tc .vmem S2048x1024 .bf16) : Memref sig .tc .vmem S1024x1024 .bf16 := M.slice hiR (fun _ => rfl)

/-- The two halves of a block's contents. -/
def lo (X : Vec F S2048x1024 .bf16) : Vec F S1024x1024 .bf16 := fun j => X (loR.emb j)
def hi (X : Vec F S2048x1024 .bf16) : Vec F S1024x1024 .bf16 := fun j => X (hiR.emb j)

/-- Where copy `i` reads, -/
abbrev srcH : Fin 6 → Memref sig .tc .vmem S1024x1024 .bf16 :=
  fun | 0 => loM aM | 1 => hiM aM | 2 => hiM aM | 3 => loM aM | 4 => loM lM | 5 => hiM rM
/-- and where it writes on the device it lands on. -/
abbrev dstH : Fin 6 → Memref sig .tc .vmem S1024x1024 .bf16 :=
  fun | 0 => loM lM | 1 => hiM lM | 2 => hiM rM | 3 => loM rM | 4 => loM pM | 5 => hiM pM

/-! ## Semaphores -/

/-- The barrier, and copy `i`'s two completion semaphores: the sender's and the receiver's. -/
abbrev barS : Sem sig := (SemArray.scalar (sig.barrier 0 rfl) : Sems sig S_).sem
set_option backward.proofsInPublic true in
abbrev sS (i : Fin 6) : DmaSem sig := ⟨3 + i.val, Nat.add_lt_add_left (i.isLt.trans (by decide : 6 < 12)) 3⟩
set_option backward.proofsInPublic true in
abbrev rS (i : Fin 6) : DmaSem sig := ⟨9 + i.val, Nat.add_lt_add_left i.isLt 9⟩

abbrev barCell (c : Dev nD) : GSem nD τ sig := ((c : Thread nD τ), .reg barS)
abbrev sCell (i : Fin 6) (c : Dev nD) : GSem nD τ sig := ((c : Thread nD τ), .dma (sS i))
abbrev rCell (i : Fin 6) (c : Dev nD) : GSem nD τ sig := ((c : Thread nD τ), .dma (rS i))

set_option backward.proofsInPublic true in
/-- The twelve scoped semaphores of a device (senders' first), -/
abbrev osem : Fin 12 → SemLoc sig := fun j => .dma ⟨3 + j.val, Nat.add_lt_add_left j.isLt 3⟩
/-- and all thirteen, the barrier first. -/
abbrev csem : Fin 13 → SemLoc sig := fun k => Fin.cases (.reg barS) osem k
abbrev kcell (ck : Dev nD × Fin 13) : GSem nD τ sig := ((ck.1 : Thread nD τ), csem ck.2)

/-- Positions of copy `i`'s cells among the thirteen. -/
abbrev ks (i : Fin 6) : Fin 13 := ⟨1 + i.val, by omega⟩
abbrev kr (i : Fin 6) : Fin 13 := ⟨7 + i.val, by omega⟩

theorem kcell_bar (c : Dev nD) : kcell (c, 0) = barCell c := rfl
theorem kcell_s (i : Fin 6) (c : Dev nD) : kcell (c, ks i) = sCell i c := by fin_cases i <;> rfl
theorem kcell_r (i : Fin 6) (c : Dev nD) : kcell (c, kr i) = rCell i c := by fin_cases i <;> rfl

/-- What one copy's completion counts: the size of half a block. -/
abbrev N : ℕ := (loM lM).view.dmaCredit
theorem N_pos : 0 < N := View.dmaCredit_pos _ (by decide)
theorem credit_dst (i : Fin 6) : (dstH i).view.dmaCredit = N := by fin_cases i <;> rfl
theorem credit_src (i : Fin 6) : (srcH i).view.dmaCredit = N := by fin_cases i <;> rfl

/-! ## What the copies carry -/

/-- A device's block of `A` and the second factor, as staged from the arguments. -/
def astg (c : Dev nD) : Vec F S2048x1024 .bf16 :=
  (win0_0.blk (0 : Fin 1)).view.read (Elt F) ((s₀ m ρ).mem ((c : Thread nD τ).loc main_arg0))
def bstg (c : Dev nD) : Vec F S1024x2048 .bf16 :=
  (win0_1.blk (0 : Fin 1)).view.read (Elt F) ((s₀ m ρ).mem ((c : Thread nD τ).loc main_arg1))

/-- The half block copy `i` of device `c` carries. -/
def val (i : Fin 6) (c : Dev nD) : Vec F S1024x1024 .bf16 :=
  match i with
  | 0 => lo (astg m ρ c)
  | 1 => hi (astg m ρ c)
  | 2 => hi (astg m ρ c)
  | 3 => lo (astg m ρ c)
  | 4 => lo (astg m ρ (prv c))
  | 5 => hi (astg m ρ (nxt c))

/-- The share of its source a copy holds while in flight. -/
def shr : Fin 6 → PosShare TreeShare
  | 0 => fullShare.right.left
  | 1 => fullShare.right.left
  | 2 => fullShare.right.right
  | 3 => fullShare.right.right
  | 4 => fullShare.right
  | 5 => fullShare.right

/-- The source's elements, held by copy `i` of device `c` and returned at its completion. -/
def sPay (i : Fin 6) (c : Dev nD) : sProp 𝕄 := owns (c : Thread nD τ) (srcH i) (shr i) (val m ρ i c)
/-- The half block landed on device `c` by copy `i`. -/
def rPay (i : Fin 6) (c : Dev nD) : sProp 𝕄 := owns (c : Thread nD τ) (dstH i) fullShare (val m ρ i (org i c))
/-- Room on device `c` for copy `i` to land. -/
def room (i : Fin 6) (c : Dev nD) : sProp 𝕄 := iprop(∃ X, owns (c : Thread nD τ) (dstH i) fullShare X)

/-- What the barrier's two signals bring: room on the right neighbour for the copies going right, -/
def barT (c : Dev nD) : sProp 𝕄 := iprop(room 0 (nxt c) ∗ room 1 (nxt c) ∗ room 4 (nxt c))
/-- room on the left neighbour for those going left. -/
def barF (c : Dev nD) : sProp 𝕄 := iprop(room 2 (prv c) ∗ room 3 (prv c) ∗ room 5 (prv c))

omit [FloatOps F] in
instance sPay_storable (i : Fin 6) (c : Dev nD) : BI.Storable (upEmb : UEmb _ 𝕄) (sPay (F := F) m ρ i c) := by unfold sPay; infer_instance
omit [FloatOps F] in
instance rPay_storable (i : Fin 6) (c : Dev nD) : BI.Storable (upEmb : UEmb _ 𝕄) (rPay (F := F) m ρ i c) := by unfold rPay; infer_instance
omit [FloatOps F] in
instance room_storable (i : Fin 6) (c : Dev nD) : BI.Storable (upEmb : UEmb _ 𝕄) (room (F := F) i c) := by unfold room; infer_instance
omit [FloatOps F] in
instance barT_storable (c : Dev nD) : BI.Storable (upEmb : UEmb _ 𝕄) (barT (F := F) c) := by unfold barT; infer_instance
omit [FloatOps F] in
instance barF_storable (c : Dev nD) : BI.Storable (upEmb : UEmb _ 𝕄) (barF (F := F) c) := by unfold barF; infer_instance

/-! ## The schedule -/

set_option backward.proofsInPublic true in
/-- What completion semaphore number `q` of device `c` hands over. -/
def dmaPay (c : Dev nD) (q : DmaSem sig) : sProp 𝕄 :=
  if h : 9 ≤ q.val then rPay m ρ ⟨q.val - 9, Nat.sub_lt_left_of_lt_add h q.isLt⟩ c
  else if h' : 3 ≤ q.val then sPay m ρ ⟨q.val - 3, Nat.sub_lt_left_of_lt_add h' (Nat.lt_of_not_le h)⟩ c
  else iprop(emp)

omit [FloatOps F] in
instance dmaPay_storable (c : Dev nD) (q : DmaSem sig) : BI.Storable (upEmb : UEmb _ 𝕄) (dmaPay (F := F) m ρ c q) := by
  unfold dmaPay; (repeat' split) <;> infer_instance

/-- One round on each cell: two signals on a barrier, one completion on a copy's semaphore. -/
def sched : Rounds.Schedule (GSem nD τ sig) Bool 𝕄 where
  duties g r := if r = 0 ∧ g.1.2 = .tc then (match g.2 with | .reg _ => Finset.univ | .dma q => if 3 ≤ q.val then {false} else ∅) else ∅
  unitless _ := False
  amount g _ _ := match g.2 with | .reg _ => 1 | .dma _ => N
  payload g _ d := match g.2 with | .reg _ => (if d then barT g.1.1 else barF g.1.1) | .dma q => dmaPay m ρ g.1.1 q
  amount_pos g _ _ _ := by
    obtain ⟨_, s⟩ := g
    cases s with
    | reg _ => exact Nat.one_pos
    | dma _ => exact N_pos

instance sched_payload_storable (g : GSem nD τ sig) (r : ℕ) (d : Bool) :
    BI.Storable (upEmb : UEmb _ 𝕄) ((sched (F := F) m ρ).payload g r d) := by
  obtain ⟨t, s⟩ := g
  cases s with
  | reg _ => show BI.Storable upEmb (if d then barT t.1 else barF t.1); split <;> infer_instance
  | dma q => show BI.Storable upEmb (dmaPay m ρ t.1 q); infer_instance

section Sched
variable (c : Dev nD)

omit [FloatOps F] in
theorem duties_bar : (sched (F := F) m ρ).duties (barCell c) 0 = Finset.univ := by
  dsimp only [sched]; exact if_pos ⟨rfl, rfl⟩
omit [FloatOps F] in
theorem duties_dma (q : DmaSem sig) (hq : 3 ≤ q.val) : (sched (F := F) m ρ).duties ((c : Thread nD τ), .dma q) 0 = {false} := by
  dsimp only [sched]; rw [if_pos (⟨rfl, rfl⟩ : (0 : ℕ) = 0 ∧ _)]; exact if_pos hq
omit [FloatOps F] in
theorem duties_later (g : GSem nD τ sig) : ∀ r, 1 ≤ r → (sched (F := F) m ρ).duties g r = ∅ :=
  fun r hr => by dsimp only [sched]; exact if_neg fun h => by omega
omit [FloatOps F] in
theorem mem_dma (q : DmaSem sig) (hq : 3 ≤ q.val) : false ∈ (sched (F := F) m ρ).duties ((c : Thread nD τ), .dma q) 0 := by
  rw [duties_dma m ρ c q hq]; exact Finset.mem_singleton_self _

omit [FloatOps F] in
theorem expect_bar : (sched (F := F) m ρ).expect (barCell c) 0 = 2 := by
  unfold Schedule.expect Schedule.amountOf
  rw [duties_bar]; rfl
omit [FloatOps F] in
theorem expect_dma (q : DmaSem sig) (hq : 3 ≤ q.val) : (sched (F := F) m ρ).expect ((c : Thread nD τ), .dma q) 0 = N := by
  unfold Schedule.expect Schedule.amountOf; rw [duties_dma m ρ c q hq, Finset.sum_singleton]; rfl

omit [FloatOps F] in
theorem rest_bar : bigSep ((sched (F := F) m ρ).duties (barCell c) 0 \ ∅) (fun d => (sched (F := F) m ρ).payload (barCell c) 0 d)
    = iprop(barF c ∗ barT c) := by
  rw [Finset.sdiff_empty, duties_bar, bigSep_univ_eq_bigSepL [false, true] (by decide) (by decide), bigSepL_cons_cons, bigSepL_singleton]
  rfl
omit [FloatOps F] in
theorem rest_dma (q : DmaSem sig) (hq : 3 ≤ q.val) :
    bigSep ((sched (F := F) m ρ).duties ((c : Thread nD τ), .dma q) 0 \ ∅) (fun d => (sched (F := F) m ρ).payload ((c : Thread nD τ), .dma q) 0 d)
      = dmaPay m ρ c q := by
  rw [Finset.sdiff_empty, duties_dma m ρ c q hq, bigSep_singleton]; rfl

omit [FloatOps F] in
theorem dmaPay_s (i : Fin 6) : dmaPay (F := F) m ρ c (sS i) = sPay m ρ i c := by fin_cases i <;> rfl
omit [FloatOps F] in
theorem dmaPay_r (i : Fin 6) : dmaPay (F := F) m ρ c (rS i) = rPay m ρ i c := by fin_cases i <;> rfl

end Sched

/-! ## Levels, and what a device owes -/

/-- The completion credit device `c` owes the device its copy `i` lands on. -/
def due (i : Fin 6) (c : Dev nD) : CellTallies nD τ sig Unit := tallyAt (rCell i (tgt i c)) () N
/-- The credits of the copies still to be started, the next one last added. -/
def owe : List (Fin 6) → Dev nD → CellTallies nD τ sig Unit
  | [], _ => 0
  | i :: is, c => owe is c + due i c
/-- The order in which a device starts its copies. -/
abbrev order : List (Fin 6) := [0, 2, 1, 3, 4, 5]
/-- After its first signal, and at launch. -/
def O₁ (c : Dev nD) : CellTallies nD τ sig Unit := owe order c + tallyAt (barCell (nxt c)) () 1
def O₀ (c : Dev nD) : CellTallies nD τ sig Unit := O₁ c + tallyAt (barCell (prv c)) () 1

def L (g : GSem nD τ sig) : Finset Unit := if g.1.2 = .tc then {()} else ∅
/-- A device waits on a cell only while everything it owes lies higher: the barrier below all receivers'
    semaphores, and those of the first four copies below those of the last two. -/
def lv (g : GSem nD τ sig) (_ : Unit) : ℕ :=
  match g.2 with
  | .reg _ => 1
  | .dma q => if q.val < 9 then 0 else if q.val < 13 then 2 else 3

/-- Every receiver's semaphore lies above the lowest level. -/
theorem lv_r_pos (i : Fin 6) (c : Dev nD) : 0 < lv (rCell i c) () := by revert i c; decide

theorem L_of_ne (g : GSem nD τ sig) (h : g.1.2 ≠ .tc) : L g = ∅ := if_neg h
theorem L_tc (c : Dev nD) (sm : SemLoc sig) : L ((c : Thread nD τ), sm) = {()} := if_pos rfl

/-- Whatever is owed among copies is owed to a receiver's semaphore of one of them. -/
theorem owe_pos {l : List (Fin 6)} {c : Dev nD} {g : GSem nD τ sig} {u : Unit} (h : 0 < owe l c g u) :
    ∃ i ∈ l, g = rCell i (tgt i c) := by
  induction l with
  | nil => exact absurd h (Nat.lt_irrefl 0)
  | cons i is ih =>
    unfold owe due at h
    rw [Pi.add_apply, Finsupp.add_apply, tallyAt_apply] at h
    by_cases hg : g = rCell i (tgt i c) ∧ u = ()
    · exact ⟨i, List.mem_cons_self, hg.1⟩
    · rw [if_neg hg, Nat.add_zero] at h
      obtain ⟨j, hj, e⟩ := ih h
      exact ⟨j, List.mem_cons_of_mem _ hj, e⟩

theorem O₀_pos {c : Dev nD} {g : GSem nD τ sig} {u : Unit} (h : 0 < O₀ c g u) :
    (∃ i, g = rCell i (tgt i c)) ∨ g = barCell (nxt c) ∨ g = barCell (prv c) := by
  unfold O₀ O₁ at h
  rw [Pi.add_apply, Finsupp.add_apply, Pi.add_apply, Finsupp.add_apply, tallyAt_apply, tallyAt_apply] at h
  by_cases h1 : g = barCell (nxt c) ∧ u = ()
  · exact .inr (.inl h1.1)
  · by_cases h2 : g = barCell (prv c) ∧ u = ()
    · exact .inr (.inr h2.1)
    · rw [if_neg h1, if_neg h2] at h
      simp only [Nat.add_zero] at h
      obtain ⟨i, -, e⟩ := owe_pos h
      exact .inl ⟨i, e⟩

omit [FloatOps F] in
/-- A device may wait on a semaphore while it owes only copies whose receivers lie above it. -/
theorem mayWait_owe (c : Dev nD) (sm : SemLoc sig) (l : List (Fin 6))
    (h : ∀ i ∈ l, lv ((c : Thread nD τ), sm) () < lv (rCell i c) ()) :
    (levAts L lv : sProp 𝕄) ⊢ MayWait (c : Thread nD τ) sm () (owe l c) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := owe_pos hg; exact Finset.mem_singleton_self _)
    (fun p hp => by rw [Finset.mem_singleton.mp hp])
    (fun g u hg => by obtain ⟨i, hi, rfl⟩ := owe_pos hg; exact h i hi)

omit [FloatOps F] in
/-- It may wait on a staging semaphore while it owes everything, or nothing. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | rfl | rfl <;> exact Finset.mem_singleton_self _)
      (fun p hp => by
        rw [Finset.mem_singleton.mp hp]
        exact le_of_eq (if_pos (by omega : q.val < 9)))
      (fun g u hg => by
        rcases O₀_pos hg with ⟨i, rfl⟩ | rfl | rfl
        · exact lv_r_pos i _
        · exact Nat.one_pos
        · exact Nat.one_pos)
  · rw [MayWait_zero]; iintro -; iempintro

end Cert.KernelIdeal.Exchange

end
-- ==== Proof.KernelIdeal.Steps.lean ====
/-
# The steps of the exchange

One rule per kind of step a device takes: start a copy, wait for one, load what it owns.
-/
module

public import proofs.«01_k».proof.Proof.KernelIdeal.Protocol
public import Idealize.ShloMosaic.Lib.MemrefSat

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Halves of a block -/

theorem half_disjoint : ∀ t t' : Bool, t ≠ t' → Disjoint (halfR t).set (halfR t').set
  | true, true, h => absurd rfl h
  | false, false, h => absurd rfl h
  | true, false, _ => Rect.unit_disjoint (0 : Fin 2) (.inl (by decide))
  | false, true, _ => Rect.unit_disjoint (0 : Fin 2) (.inr (by decide))

theorem half_cover : (Finset.univ : Finset Bool).biUnion (fun t => (halfR t).set) = Finset.univ := by
  refine Finset.eq_univ_iff_forall.mpr fun i => Finset.mem_biUnion.mpr ?_
  have h0 : (i 0).val < 2048 := (i 0).isLt
  have h1 : (i 1).val < 1024 := (i 1).isLt
  by_cases h : (i 0).val < 1024
  · exact ⟨true, Finset.mem_univ _, Rect.mem_set_unit.mpr fun
      | 0 => ⟨Nat.zero_le _, by show (i 0).val < 0 + 1024; omega⟩
      | 1 => ⟨Nat.zero_le _, by show (i 1).val < 0 + 1024; omega⟩⟩
  · exact ⟨false, Finset.mem_univ _, Rect.mem_set_unit.mpr fun
      | 0 => ⟨by show 1024 ≤ (i 0).val; omega, by show (i 0).val < 1024 + 1024; omega⟩
      | 1 => ⟨Nat.zero_le _, by show (i 1).val < 0 + 1024; omega⟩⟩

theorem half_stride : ∀ (t : Bool) a, (halfR t).stride a = 1
  | true, _ => rfl
  | false, _ => rfl

omit [FloatOps F] in
theorem bigSep_bool (Φ : Bool → sProp 𝕄) : bigSep Finset.univ Φ = iprop(Φ true ∗ Φ false) :=
  bigSep_univ_eq_bigSepL [true, false] (by decide) (by decide) Φ

omit [FloatOps F] in
/-- A block's buffer is its two halves. -/
theorem rows_split (c : Dev nD) (M : Memref sig .tc .vmem S2048x1024 .bf16) (q : PosShare TreeShare) (X : Vec F S2048x1024 .bf16) :
    owns (c : Thread nD τ) M q X ⊢ (iprop(owns (c : Thread nD τ) (loM M) q (lo X) ∗ owns (c : Thread nD τ) (hiM M) q (hi X)) : sProp 𝕄) :=
  (owns_rects (c : Thread nD τ) M q halfR half_stride half_disjoint half_cover X).trans (Entails.of_eq (bigSep_bool _))

/-- Two halves, whatever they hold, are a block's buffer holding something. -/
theorem rows_join (c : Dev nD) (M : Memref sig .tc .vmem S2048x1024 .bf16) (q : PosShare TreeShare) (X Y : Vec F S1024x1024 .bf16) :
    iprop(owns (c : Thread nD τ) (loM M) q X ∗ owns (c : Thread nD τ) (hiM M) q Y) ⊢ (iprop(∃ Z, owns (c : Thread nD τ) M q Z) : sProp 𝕄) := by
  let Z : Vec F S2048x1024 .bf16 := loR.overlay (hiR.overlay (fun _ => (Elt.nonempty F .bf16).some) Y) X
  have hlo : lo Z = X := funext fun j => Rect.overlay_emb loR _ X j
  have hhi : hi Z = Y := funext fun j =>
    (Rect.overlay_of_not_mem loR _ X (j := hiR.emb j) (Finset.disjoint_right.mp (half_disjoint true false (by decide))
      (by rw [← Rect.map_emb_univ]; exact Finset.mem_map_of_mem _ (Finset.mem_univ j)))).trans (Rect.overlay_emb hiR _ Y j)
  have h := owns_of_rects (Ix := Unit) (Name := ℕ) (U := UU) (Lvl := ℕ) (c : Thread nD τ) M q halfR half_stride half_disjoint half_cover Z
  rw [bigSep_bool] at h
  rw [← hlo, ← hhi]
  exact h.trans (exists_intro (Φ := fun Z => owns (c : Thread nD τ) M q Z) Z)

omit [FloatOps F] in
/-- The same two halves of one block's contents are the block. -/
theorem rows_rejoin [∀ e, Nonempty (Elt F e)] (c : Dev nD) (M : Memref sig .tc .vmem S2048x1024 .bf16) (q : PosShare TreeShare) (X : Vec F S2048x1024 .bf16) :
    iprop(owns (c : Thread nD τ) (loM M) q (lo X) ∗ owns (c : Thread nD τ) (hiM M) q (hi X)) ⊢ (owns (c : Thread nD τ) M q X : sProp 𝕄) :=
  (Entails.of_eq (bigSep_bool (F := F) fun t => owns (c : Thread nD τ) (M.slice (halfR t) (half_stride t)) q (fun j => X ((halfR t).emb j))).symm).trans
    (owns_of_rects (c : Thread nD τ) M q halfR half_stride half_disjoint half_cover X)

/-! ## The records every device has, and the steps of the exchange -/

/-- Every cell's promise, and that its round 0 is reached: known to all. -/
def records (K : Dev nD × Fin 13 → ℕ) : sProp 𝕄 :=
  bigSep Finset.univ fun ck => iprop(cellInv ER (sched m ρ) (K ck) (kcell ck) ∗ reached ER (kcell ck) 0)

instance records_persistent (K : Dev nD × Fin 13 → ℕ) : BI.Persistent (records (F := F) m ρ K) := by unfold records; infer_instance

omit [FloatOps F] in
theorem record_at (K : Dev nD × Fin 13 → ℕ) (ck : Dev nD × Fin 13) {g : GSem nD τ sig} (hg : kcell ck = g) :
    records m ρ K ⊢ (iprop(cellInv ER (sched m ρ) (K ck) g ∗ reached ER g 0) : sProp 𝕄) := by
  subst hg; exact bigSep_elim (Finset.mem_univ ck)

/-- The device owes `O`, having waited on anything. -/
def owing (c : Dev nD) (O : CellTallies nD τ sig Unit) : sProp 𝕄 := iprop(∃ W, owes (c : Thread nD τ) O W)

/-- What starting copy `i` takes besides the data: its place at its own semaphore, and both ends' turns. -/
def sKit (i : Fin 6) (c : Dev nD) : sProp 𝕄 :=
  iprop(atPos ER (sCell i c) 0 ∅ 0 ∗ dutyTok ER (sCell i c) 0 false ∗ dutyTok ER (rCell i (tgt i c)) 0 false)
/-- A copy in flight at its sender; one expected at its receiver. -/
def sent (i : Fin 6) (c : Dev nD) : sProp 𝕄 := iprop(cred (tallyAt (sCell i c) () N) ∗ atPos ER (sCell i c) 0 ∅ 0)
def coming (i : Fin 6) (c : Dev nD) : sProp 𝕄 := iprop(cred (tallyAt (rCell i c) () N) ∗ atPos ER (rCell i c) 0 ∅ 0)

abbrev 𝒱₀ : Variants := Variants.none

section Steps

variable (K : Dev nD × Fin 13 → ℕ)

theorem amount_dst (i : Fin 6) : (dstH i).view.amount (.dma (rS i)) = N := by fin_cases i <;> rfl

/-- STARTING copy `i`: the source's share and the room at the other end go in, one debt is discharged. -/
theorem wp_copy (i : Fin 6) (c n : Dev nD) (hn : n = tgt i c) (l : List (Fin 6))
    {src dst : Memref sig .tc .vmem S1024x1024 .bf16} (hs : src = srcH i) (hd : dst = dstH i)
    {q₁ q₂ : DmaSem sig} (h₁ : q₁ = sS i) (h₂ : q₂ = rS i)
    {hsc : (dst : Memref sig (Dev.tc n : Thread nD τ).2.kind .vmem S1024x1024 .bf16).view.ref.isScScratch = false}
    {hsrc : src.view.WordExact} {hdst : dst.view.WordExact}
    {hsem : DmaTarget.Typed .vmem (.dma q₂) (.remote (Dev.tc n : Thread nD τ) (dst : Memref sig .tc .vmem S1024x1024 .bf16) (.dma q₁) hsc)}
    {α : Type} {Q : α → sProp 𝕄} {k : PUnit → Prog (TpuEff nD τ sig (Elt F) Λ₀ .tc) α} :
    iprop(records m ρ K ∗ sPay m ρ i c ∗ room i (tgt i c) ∗ owing c (owe (i :: l) c) ∗ sKit i c)
      ⊢ iprop(((sent i c ∗ owing c (owe l c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q₁) hsc) (.dma q₂) hsrc hdst hsem) k) Q) := by
  subst hn hs hd h₁ h₂
  unfold sPay room owing sKit sent owns
  iintro ⟨#HR, ⟨%fs, %hfs, Hsrc⟩, ⟨%X, %fd, %hfd, Hdst⟩, ⟨%W, HO⟩, Hat, Ht₁, Ht₂⟩ Hk
  ihave H₁ := (record_at m ρ K (c, ks i) (kcell_s i c)) $$ HR
  icases H₁ with ⟨#HI₁, #Hr₁⟩
  ihave H₂ := (record_at m ρ K (tgt i c, kr i) (kcell_r i (tgt i c))) $$ HR
  icases H₂ with ⟨#HI₂, #Hr₂⟩
  iapply (Rounds.wp_send_pointsTo 𝒱₀ ER (sched m ρ) (c : Thread nD τ) none (κ₁ := K (c, ks i)) (κ₂ := K (tgt i c, kr i))
    (r₁ := 0) (r₂ := 0) (d₁ := false) (d₂ := false) (fs := fs) (fd := fd) (q := shr i) (c' := (tgt i c : Thread nD τ)) (src := srcH i) (dst := dstH i)
    (mem_dma m ρ c (sS i) (Nat.le_add_right 3 _)) (mem_dma m ρ (tgt i c) (rS i) (by show 3 ≤ 9 + i.val; omega))
    () () N (amount_dst i) rfl rfl (owe l c) rfl (W := W)
    ((owns_intro (c : Thread nD τ) (srcH i) (shr i) fs).trans (Entails.of_eq (by
      rw [hfs]; exact (dmaPay_s m ρ c i).symm)))
    ((owns_intro (tgt i c : Thread nD τ) (dstH i) fullShare _).trans (Entails.of_eq (by
      rw [View.read_write_univ, hfs]
      refine Eq.trans ?_ (dmaPay_r m ρ (tgt i c) i).symm
      unfold rPay; rw [org_tgt])))) $$ [Hsrc Hdst HO Ht₁ Ht₂]
  · isplitr; · iexact HI₁
    isplitr; · iexact HI₂
    isplitl [Hsrc]; · iexact Hsrc
    isplitl [Hdst]; · iexact Hdst
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc Hat]
  · isplitl [Hc] <;> iassumption
  iexists W; iexact HO

/-- WAITING on a copy's semaphore while owing only copies received above it: the cell is closed at zero and
    hands over what it promised. -/
theorem wp_wait (c : Dev nD) (k : Fin 13) (q : DmaSem sig) (hk : kcell (c, k) = ((c : Thread nD τ), .dma q)) (hq : 3 ≤ q.val)
    (l : List (Fin 6)) (hl : ∀ i ∈ l, lv ((c : Thread nD τ), .dma q) () < lv (rCell i c) ())
    {src dst : Memref sig .tc .vmem S1024x1024 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(records m ρ K ∗ levAts L lv ∗ (cred (tallyAt ((c : Thread nD τ), SemLoc.dma q) () N) ∗ atPos ER ((c : Thread nD τ), .dma q) 0 ∅ 0) ∗ owing c (owe l c))
      ⊢ iprop(((owing c (owe l c) ∗ semVal ((c : Thread nD τ), .dma q) 0 ∗ dmaPay m ρ c q)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  unfold owing
  iintro ⟨#HR, #Hlev, ⟨Hc, Hat⟩, ⟨%W, HO⟩⟩ Hk
  ihave H₁ := (record_at m ρ K (c, k) hk) $$ HR
  icases H₁ with ⟨#HI, -⟩
  iapply (Rounds.wp_wait_rest_token 𝒱₀ ER (sched m ρ) (c : Thread nD τ) none (κ := K (c, k))
      (wpE_waitDma2_eq 𝒱₀ (c : Thread nD τ) none Set.univ) (Set.mem_univ _) () (O := owe l c) (W := W) (R := 0) (m := 0) (T := ∅)
      (by rw [Nat.zero_add, hN, expect_dma m ρ c q hq])) $$ [Hc HO Hat]
  · isplitr; · iexact HI
    isplitl [Hc]; · iexact Hc
    isplitl [HO]; · iexact HO
    isplitr; · iapply (mayWait_owe c (.dma q) l hl); iexact Hlev
    iexact Hat
  iintro ⟨HO, Hat, -, Hpay⟩
  imod (Rounds.cell_close ER (sched m ρ) (Set.mem_univ (K (c, k))) (fun h => h) (R := 0 + 1) (duties_later m ρ ((c : Thread nD τ), .dma q))) $$ [Hat] with Hz
  · isplitr; · iexact HI
    iexact Hat
  iapply Hk
  isplitl [HO]; · iexists _; iexact HO
  isplitl [Hz]; · iexact Hz
  iapply (Entails.of_eq (rest_dma m ρ c q hq)); iexact Hpay

/-- The wait at the receiver: the half block has landed. -/
theorem wp_wait_r (i : Fin 6) (c : Dev nD) (l : List (Fin 6)) (hl : ∀ j ∈ l, lv (rCell i c) () < lv (rCell j c) ())
    {q : DmaSem sig} (h : q = rS i) {src dst : Memref sig .tc .vmem S1024x1024 .bf16} {hsrc : src.view.WordExact} {hdst : dst.view.WordExact}
    (hN : dst.view.dmaCredit = N) {α : Type} {Q : α → sProp 𝕄} {kk : PUnit → Prog (TpuEff nD τ sig (Elt F) Λ₀ .tc) α} :
    iprop(records m ρ K ∗ levAts L lv ∗ coming i c ∗ owing c (owe l c))
      ⊢ iprop(((owing c (owe l c) ∗ semVal (rCell i c) 0 ∗ rPay m ρ i c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst h
  rw [← dmaPay_r]; unfold coming
  exact wp_wait m ρ K c (kr i) (rS i) (kcell_r i c) (by show 3 ≤ 9 + i.val; omega) l hl hN

/-- The wait at the sender: the source's share is back. -/
theorem wp_wait_s (i : Fin 6) (c : Dev nD)
    {q : DmaSem sig} (h : q = sS i) {src dst : Memref sig .tc .vmem S1024x1024 .bf16} {hsrc : src.view.WordExact} {hdst : dst.view.WordExact}
    (hN : dst.view.dmaCredit = N) {α : Type} {Q : α → sProp 𝕄} {kk : PUnit → Prog (TpuEff nD τ sig (Elt F) Λ₀ .tc) α} :
    iprop(records m ρ K ∗ levAts L lv ∗ sent i c ∗ owing c (owe [] c))
      ⊢ iprop(((owing c (owe [] c) ∗ semVal (sCell i c) 0 ∗ sPay m ρ i c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst h
  rw [← dmaPay_s]; unfold sent
  exact wp_wait m ρ K c (ks i) (sS i) (kcell_s i c) (Nat.le_add_right 3 _) [] (fun _ h => absurd h List.not_mem_nil) hN

/-- LOADING a slice the device owns: the program goes on with what it holds. -/
theorem wp_load_slice (c : Dev nD) {s : Shape} {M : Memref sig .tc .vmem s .bf16} {r : Rect s} {hr : ∀ a, r.stride a = 1}
    {hl : M.view.LoadsAt r} {q : PosShare TreeShare} {X : r.shape.Idx → Elt F .bf16}
    {α : Type} {Q : α → sProp 𝕄} {kk : (r.shape.Idx → Elt F .bf16) → Prog (TpuEff nD τ sig (Elt F) Λ₀ .tc) α} :
    owns (c : Thread nD τ) (M.slice r hr) q X
      ⊢ iprop((owns (c : Thread nD τ) (M.slice r hr) q X -∗ wp frame (wpE (defs₀ (F := F)) 𝒱₀ (c : Thread nD τ) none) Set.univ (kk X) Q)
          -∗ wp frame (wpE (defs₀ (F := F)) 𝒱₀ (c : Thread nD τ) none) Set.univ (.op (.load M r hl) kk) Q) := by
  unfold owns
  iintro ⟨%f, %hf, H⟩ Hk
  iapply (wp_load_rect 𝒱₀ (c : Thread nD τ) none Set.univ (m := M) (r := r) (S := (M.slice r hr).view.set) (q := q) (f := f) subset_rfl) $$ H
  iintro H
  rw [show (M.access r).read (Elt F) f = X from hf]
  iapply Hk
  iexists f; isplitr; · ipureintro; exact hf
  iexact H

/-- LOADING all of a buffer the device owns. -/
theorem wp_load_all (c : Dev nD) {s : Shape} {M : Memref sig .tc .vmem s .bf16} {off : Fin s.rank → Nat} {inb : ∀ a, off a + s.size a ≤ s.size a}
    {hl : M.view.LoadsAt (Rect.unit off s.size inb).toLoadRect} {q : PosShare TreeShare} {X : s.Idx → Elt F .bf16}
    (hX : ∀ f : Buf (Elt F) (M.view.loc (c : Thread nD τ)), M.view.readAt (Elt F) (Rect.unit off s.size inb).toLoadRect f = M.view.read (Elt F) f)
    (hM : M.view.set = Finset.univ)
    {α : Type} {Q : α → sProp 𝕄} {kk : (s.Idx → Elt F .bf16) → Prog (TpuEff nD τ sig (Elt F) Λ₀ .tc) α} :
    owns (c : Thread nD τ) M q X
      ⊢ iprop((owns (c : Thread nD τ) M q X -∗ wp frame (wpE (defs₀ (F := F)) 𝒱₀ (c : Thread nD τ) none) Set.univ (kk X) Q)
          -∗ wp frame (wpE (defs₀ (F := F)) 𝒱₀ (c : Thread nD τ) none) Set.univ (.op (.load M (Rect.unit off s.size inb).toLoadRect hl) kk) Q) := by
  unfold owns
  iintro ⟨%f, %hf, H⟩ Hk
  iapply (wp_load 𝒱₀ (c : Thread nD τ) none Set.univ (m := M) (r := (Rect.unit off s.size inb).toLoadRect) (S := M.view.set) (q := q) (f := f)
    (hM ▸ Finset.subset_univ _)) $$ H
  iintro H
  rw [hX f, hf]
  iapply Hk
  iexists f; isplitr; · ipureintro; exact hf
  iexact H

omit [FloatOps F] in
/-- What a load of the whole first and second factor reads. -/
theorem read_a {inb} (f : (cc0_stg0_0 : Ref sig .tc).ty.Contents (Elt F)) :
    aM.view.readAt (Elt F) (Rect.unit (s := S2048x1024) ![0, 0] S2048x1024.size inb).toLoadRect f = aM.view.read (Elt F) f :=
  Memref.readAt_unit_zero (Elt F) cc0_stg0_0 (funext fun a => by fin_cases a <;> rfl) _ f
omit [FloatOps F] in
theorem read_b {inb} (f : (cc0_stg1_0 : Ref sig .tc).ty.Contents (Elt F)) :
    bM.view.readAt (Elt F) (Rect.unit (s := S1024x2048) ![0, 0] S1024x2048.size inb).toLoadRect f = bM.view.read (Elt F) f :=
  Memref.readAt_unit_zero (Elt F) cc0_stg1_0 (funext fun a => by fin_cases a <;> rfl) _ f

/-- The result's buffer on device `c` holding `g`. -/
def outPts (c : Dev nD) (g : (cc0_stg2_0 : Ref sig .tc).ty.Contents (Elt F)) : sProp 𝕄 := ((c : Thread nD τ).loc cc0_stg2_0) ↦{fullShare} g

/-- The result's contents after rectangle `r` of it is overwritten with `w`. -/
def put (r : Rect S8192x2048) (w : r.shape.Idx → Elt F .bf16) (g : (cc0_stg2_0 : Ref sig .tc).ty.Contents (Elt F)) :
    (cc0_stg2_0 : Ref sig .tc).ty.Contents (Elt F) := (oM.access r : View sig .tc _ _ _).write (Elt F) g w Finset.univ

/-- COMPUTING one rectangle of the result: the second factor is loaded, the old rectangle loaded and dropped, the new one stored. -/
theorem wp_put (c : Dev nD) {r : Rect S8192x2048} (pay : Vec F S1024x2048 .bf16 → r.shape.Idx → Elt F .bf16) {q : PosShare TreeShare}
    {B : Vec F S1024x2048 .bf16} {g : (cc0_stg2_0 : Ref sig .tc).ty.Contents (Elt F)} {inb}
    {hl : bM.view.LoadsAt (Rect.unit (s := S1024x2048) ![0, 0] S1024x2048.size inb).toLoadRect} {hl' : oM.view.LoadsAt r.toLoadRect}
    {hx : (oM.access r).Stores Finset.univ} {hm : (Finset.univ : Finset r.shape.Idx) = Finset.univ ∨ ∀ a, r.stride a = 1}
    {α : Type} {Q : α → sProp 𝕄} {kk : PUnit → Prog (TpuEff nD τ sig (Elt F) Λ₀ .tc) α} :
    iprop(owns (c : Thread nD τ) bM q B ∗ outPts c g)
      ⊢ iprop(((owns (c : Thread nD τ) bM q B ∗ outPts c (put r (pay B) g)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load bM (Rect.unit (s := S1024x2048) ![0, 0] S1024x2048.size inb).toLoadRect hl) fun w =>
                .op (.load oM r.toLoadRect hl') fun _ => .op (.store oM r (pay w) Finset.univ hx hm) kk) Q) := by
  unfold outPts put
  iintro ⟨Hb, Ho⟩ Hk
  iapply (wp_load_all c (M := bM) (X := B) read_b (View.set_whole _)) $$ Hb
  iintro Hb
  iapply (wp_load 𝒱₀ (c : Thread nD τ) none Set.univ (m := oM) (Finset.subset_univ _)) $$ Ho; iintro Ho
  iapply (wp_store 𝒱₀ (c : Thread nD τ) none Set.univ (m := oM) (r := r) (Mk := Finset.univ) (Finset.subset_univ _)) $$ Ho; iintro Ho
  iapply Hk
  isplitl [Hb] <;> iassumption

end Steps

end Cert.KernelIdeal.Exchange

end
-- ==== Proof.KernelIdeal.Output.lean ====
/-
# The result's buffer

The kernel writes the result in seven rectangles of whole rows. This module names them, proves that
together they cover the result, and states what the buffer holds once all seven are written.
-/
module

public import proofs.«01_k».proof.Proof.KernelIdeal.Steps

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The seven rectangles -/

/-- The device's own block of rows of the result, -/
abbrev R1 (c : Dev nD) : Rect S8192x2048 := Rect.unit (s := S8192x2048) (k0_off1 c) S2048x2048.size (k0_off1_inb c)
/-- and the half blocks of the left neighbour, the right neighbour and the opposite device, in the order they are computed. -/
abbrev R2 (c : Dev nD) : Rect S8192x2048 := Rect.unit (s := S8192x2048) (k0_off2 c) S1024x2048.size (k0_off2_inb c)
abbrev R3 (c : Dev nD) : Rect S8192x2048 := Rect.unit (s := S8192x2048) (k0_off3 c 1#32) S1024x2048.size (k0_off3_inb c 0)
abbrev R4 (c : Dev nD) : Rect S8192x2048 := Rect.unit (s := S8192x2048) (k0_off4 c) S1024x2048.size (k0_off4_inb c)
abbrev R5 (c : Dev nD) : Rect S8192x2048 := Rect.unit (s := S8192x2048) (k0_off5 c 1#32) S1024x2048.size (k0_off5_inb c 0)
abbrev R6 (c : Dev nD) : Rect S8192x2048 := Rect.unit (s := S8192x2048) (k0_off5 c 2#32) S1024x2048.size (k0_off5_inb c 1)
abbrev R7 (c : Dev nD) : Rect S8192x2048 := Rect.unit (s := S8192x2048) (k0_off3 c 2#32) S1024x2048.size (k0_off3_inb c 1)

theorem off3_one (c : Dev nD) : k0_off3 c 1#32 = ![2048 * ((c.val + 1) % 4) + 1024, 0] := k0_off3_eq c 0
theorem off3_two (c : Dev nD) : k0_off3 c 2#32 = ![2048 * ((c.val + 1 + 1) % 4) + 1024, 0] := k0_off3_eq c 1
theorem off5_one (c : Dev nD) : k0_off5 c 1#32 = ![2048 * ((c.val + 1) % 4), 0] := k0_off5_eq c 0
theorem off5_two (c : Dev nD) : k0_off5 c 2#32 = ![2048 * ((c.val + 1 + 1) % 4), 0] := k0_off5_eq c 1

/-- A rectangle of whole rows holds the elements of those rows. -/
theorem mem_rows {off sz : Fin 2 → Nat} {inb : ∀ a, off a + sz a ≤ S8192x2048.size a} {n : ℕ} (h : off = ![n, 0]) (hsz : sz 1 = 2048) (i : S8192x2048.Idx)
    (h1 : n ≤ (i 0).val) (h2 : (i 0).val < n + sz 0) : i ∈ (Rect.unit (s := S8192x2048) off sz inb).set := by
  subst h
  refine Rect.mem_set_unit.mpr fun a => ?_
  fin_cases a
  · exact ⟨h1, h2⟩
  · have := (i 1).isLt
    exact ⟨Nat.zero_le _, by show (i 1).val < 0 + sz 1; rw [hsz, Nat.zero_add]; exact this⟩

/-- Every element of the result lies in one of the seven. -/
theorem covered (c : Dev nD) (i : S8192x2048.Idx) :
    i ∈ (R1 c).set ∨ i ∈ (R2 c).set ∨ i ∈ (R3 c).set ∨ i ∈ (R4 c).set ∨ i ∈ (R5 c).set ∨ i ∈ (R6 c).set ∨ i ∈ (R7 c).set := by
  have hi : (i 0).val < 8192 := (i 0).isLt
  have hc : c.val < 4 := c.isLt
  have h : (2048 * c.val ≤ (i 0).val ∧ (i 0).val < 2048 * c.val + 2048)
      ∨ (2048 * ((c.val + 3) % 4) ≤ (i 0).val ∧ (i 0).val < 2048 * ((c.val + 3) % 4) + 1024)
      ∨ (2048 * ((c.val + 1) % 4) + 1024 ≤ (i 0).val ∧ (i 0).val < 2048 * ((c.val + 1) % 4) + 1024 + 1024)
      ∨ (2048 * ((c.val + 3) % 4) + 1024 ≤ (i 0).val ∧ (i 0).val < 2048 * ((c.val + 3) % 4) + 1024 + 1024)
      ∨ (2048 * ((c.val + 1) % 4) ≤ (i 0).val ∧ (i 0).val < 2048 * ((c.val + 1) % 4) + 1024)
      ∨ (2048 * ((c.val + 1 + 1) % 4) ≤ (i 0).val ∧ (i 0).val < 2048 * ((c.val + 1 + 1) % 4) + 1024)
      ∨ (2048 * ((c.val + 1 + 1) % 4) + 1024 ≤ (i 0).val ∧ (i 0).val < 2048 * ((c.val + 1 + 1) % 4) + 1024 + 1024) := by omega
  rcases h with h | h | h | h | h | h | h
  · exact .inl (mem_rows (k0_off1_eq c) rfl i h.1 h.2)
  · exact .inr (.inl (mem_rows (k0_off2_eq c) rfl i h.1 h.2))
  · exact .inr (.inr (.inl (mem_rows (off3_one c) rfl i h.1 h.2)))
  · exact .inr (.inr (.inr (.inl (mem_rows (k0_off4_eq c) rfl i h.1 h.2))))
  · exact .inr (.inr (.inr (.inr (.inl (mem_rows (off5_one c) rfl i h.1 h.2)))))
  · exact .inr (.inr (.inr (.inr (.inr (.inl (mem_rows (off5_two c) rfl i h.1 h.2))))))
  · exact .inr (.inr (.inr (.inr (.inr (.inr (mem_rows (off3_two c) rfl i h.1 h.2))))))

/-! ## Overwriting one rectangle -/

/-- The contents of the result's buffer. -/
abbrev Out (F : FTy → Type) : Type := (cc0_stg2_0 : Ref sig .tc).ty.Contents (Elt F)

omit [FloatOps F] in
/-- Inside the rectangle the new contents stand, -/
theorem put_in (r : Rect S8192x2048) (w : r.shape.Idx → Elt F .bf16) (g : Out F) (j : r.shape.Idx) : put r w g (r.emb j) = w j :=
  View.write_emb_of_mem (v := oM.access r) g w (Finset.mem_univ j)

omit [FloatOps F] in
/-- outside it the old. -/
theorem put_out (r : Rect S8192x2048) (w : r.shape.Idx → Elt F .bf16) (g : Out F) (i : S8192x2048.Idx) (h : i ∉ r.set) : put r w g i = g i :=
  View.write_of_not_mem (v := oM.access r) g w Finset.univ (by
    intro hi
    exact h (by
      have e := View.set_slice_whole (b := (cc0_stg2_0 : Ref sig .tc)) (r := r)
      exact e ▸ hi))

omit [FloatOps F] in
/-- Overwriting keeps two contents' agreement at an element, and makes them agree inside the rectangle. -/
theorem put_agree (r : Rect S8192x2048) (w : r.shape.Idx → Elt F .bf16) (g g' : Out F) (i : S8192x2048.Idx)
    (h : i ∈ r.set ∨ g i = g' i) : put r w g i = put r w g' i := by
  by_cases hi : i ∈ r.set
  · rw [← Rect.map_emb_univ] at hi
    obtain ⟨j, -, rfl⟩ := Finset.mem_map.mp hi
    exact (put_in r w g j).trans (put_in r w g' j).symm
  · rw [put_out r w g i hi, put_out r w g' i hi]; exact h.resolve_left hi

omit [FloatOps F] in
/-- Overwriting with the target's own elements brings the contents to the target inside the rectangle. -/
theorem put_target (r : Rect S8192x2048) (w : r.shape.Idx → Elt F .bf16) (g T : Out F) (hw : ∀ j, w j = T (r.emb j)) (i : S8192x2048.Idx)
    (h : i ∈ r.set ∨ g i = T i) : put r w g i = T i := by
  by_cases hi : i ∈ r.set
  · rw [← Rect.map_emb_univ] at hi
    obtain ⟨j, -, rfl⟩ := Finset.mem_map.mp hi
    exact (put_in r w g j).trans (hw j)
  · rw [put_out r w g i hi]; exact h.resolve_left hi

/-! ## The result -/

/-- The result's buffer after the kernel ran from contents `g`: each device's block and each half block that arrived times the second
    factor, in its place. -/
def outFrom (c : Dev nD) (g : Out F) : Out F :=
  put (R7 c) (k0_pay7 (val m ρ 5 (org 5 c)) (bstg m ρ c))
  (put (R6 c) (k0_pay6 (val m ρ 4 (org 4 c)) (bstg m ρ c))
  (put (R5 c) (k0_pay5 (val m ρ 3 (org 3 c)) (bstg m ρ c))
  (put (R4 c) (k0_pay4 (val m ρ 1 (org 1 c)) (bstg m ρ c))
  (put (R3 c) (k0_pay3 (val m ρ 2 (org 2 c)) (bstg m ρ c))
  (put (R2 c) (k0_pay2 (val m ρ 0 (org 0 c)) (bstg m ρ c))
  (put (R1 c) (k0_pay1 (astg m ρ c) (bstg m ρ c)) g))))))

/-- What it holds does not depend on what it held. -/
theorem outFrom_any (c : Dev nD) (g g' : Out F) : outFrom m ρ c g = outFrom m ρ c g' := by
  funext i
  unfold outFrom
  have h := covered c i
  refine put_agree _ _ _ _ i (or_iff_not_imp_left.mpr fun h7 => ?_)
  refine put_agree _ _ _ _ i (or_iff_not_imp_left.mpr fun h6 => ?_)
  refine put_agree _ _ _ _ i (or_iff_not_imp_left.mpr fun h5 => ?_)
  refine put_agree _ _ _ _ i (or_iff_not_imp_left.mpr fun h4 => ?_)
  refine put_agree _ _ _ _ i (or_iff_not_imp_left.mpr fun h3 => ?_)
  refine put_agree _ _ _ _ i (or_iff_not_imp_left.mpr fun h2 => ?_)
  exact put_agree _ _ _ _ i (.inl (h.elim id fun h => h.elim (absurd · h2) fun h => h.elim (absurd · h3) fun h => h.elim (absurd · h4) fun h =>
    h.elim (absurd · h5) fun h => h.elim (absurd · h6) (absurd · h7)))

/-- If every block computed is the target's, the result is the target. -/
theorem outFrom_target (c : Dev nD) (g T : Out F)
    (h1 : ∀ j, k0_pay1 (astg m ρ c) (bstg m ρ c) j = T ((R1 c).emb j))
    (h2 : ∀ j, k0_pay2 (val m ρ 0 (org 0 c)) (bstg m ρ c) j = T ((R2 c).emb j))
    (h3 : ∀ j, k0_pay3 (val m ρ 2 (org 2 c)) (bstg m ρ c) j = T ((R3 c).emb j))
    (h4 : ∀ j, k0_pay4 (val m ρ 1 (org 1 c)) (bstg m ρ c) j = T ((R4 c).emb j))
    (h5 : ∀ j, k0_pay5 (val m ρ 3 (org 3 c)) (bstg m ρ c) j = T ((R5 c).emb j))
    (h6 : ∀ j, k0_pay6 (val m ρ 4 (org 4 c)) (bstg m ρ c) j = T ((R6 c).emb j))
    (h7 : ∀ j, k0_pay7 (val m ρ 5 (org 5 c)) (bstg m ρ c) j = T ((R7 c).emb j)) : outFrom m ρ c g = T := by
  funext i
  unfold outFrom
  have h := covered c i
  refine put_target _ _ _ T h7 i (or_iff_not_imp_left.mpr fun n7 => ?_)
  refine put_target _ _ _ T h6 i (or_iff_not_imp_left.mpr fun n6 => ?_)
  refine put_target _ _ _ T h5 i (or_iff_not_imp_left.mpr fun n5 => ?_)
  refine put_target _ _ _ T h4 i (or_iff_not_imp_left.mpr fun n4 => ?_)
  refine put_target _ _ _ T h3 i (or_iff_not_imp_left.mpr fun n3 => ?_)
  refine put_target _ _ _ T h2 i (or_iff_not_imp_left.mpr fun n2 => ?_)
  exact put_target _ _ _ T h1 i (.inl (h.elim id fun h => h.elim (absurd · n2) fun h => h.elim (absurd · n3) fun h => h.elim (absurd · n4) fun h =>
    h.elim (absurd · n5) fun h => h.elim (absurd · n6) (absurd · n7)))

/-- The result of device `c`. -/
def outAt (c : Dev nD) : Out F := outFrom m ρ c fun _ => (Elt.nonempty F .bf16).some

end Cert.KernelIdeal.Exchange

end
-- ==== Proof.KernelIdeal.Body.lean ====
/-
# One device's run of the kernel

What a device starts from, what it ends with, and the kernel's body followed effect by effect from the
one to the other.
-/
module

public import proofs.«01_k».proof.Proof.KernelIdeal.Output

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- Six things, one per copy. -/
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The records, the device's place at its own cells, and its turns at its own and at its neighbours' cells. -/
def ghost (K : Dev nD × Fin 13 → ℕ) (c : Dev nD) : sProp 𝕄 :=
  iprop(records m ρ K ∗ atPos ER (barCell c) 0 ∅ 0 ∗ dutyTok ER (barCell (prv c)) 0 true ∗ dutyTok ER (barCell (nxt c)) 0 false
    ∗ bigSep Finset.univ (fun i : Fin 6 => sKit i c) ∗ bigSep Finset.univ (fun i : Fin 6 => atPos ER (rCell i c) 0 ∅ 0))

/-- That, and the credits its neighbours owe it. -/
def start (c : Dev nD) : sProp 𝕄 :=
  iprop((∃ K, ghost m ρ K c) ∗ cred (tallyAt (barCell c) () 2) ∗ bigSep Finset.univ (fun i : Fin 6 => cred (tallyAt (rCell i c) () N)) ∗ levAts L lv)

/-- Buffer `b` of device `c`, holding something. -/
abbrev some_ (c : Dev nD) (b : Ref sig .tc) : sProp 𝕄 := iprop(∃ f : Buf (Elt F) ((c : Thread nD τ).loc b), ((c : Thread nD τ).loc b) ↦{fullShare} f)
/-- The three buffers the other devices' blocks arrive in. -/
def landing (c : Dev nD) : sProp 𝕄 := iprop(some_ c cc0_scratch0 ∗ some_ c cc0_scratch1 ∗ some_ c cc0_scratch2)

def Φ₀ (c : Dev nD) : sProp 𝕄 := iprop(start m ρ c ∗ landing c)
def Φ₁ (c : Dev nD) : sProp 𝕄 :=
  iprop(landing c ∗ semVal (barCell c) 0 ∗ bigSep Finset.univ (fun i : Fin 6 => semVal (sCell i c) 0) ∗ bigSep Finset.univ (fun i : Fin 6 => semVal (rCell i c) 0))

/-- The kernel's call: what is staged in, what is left in each staging buffer, what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => astg m ρ c
    | ⟨1, _⟩ => bstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Giving room, lending the block, and getting both back -/

section Parts
variable (c : Dev nD)

/-- The landing buffers are the room for the six copies that land here. -/
theorem rooms : landing (F := F) c ⊢ (iprop((room 0 c ∗ room 1 c ∗ room 4 c) ∗ (room 2 c ∗ room 3 c ∗ room 5 c)) : sProp 𝕄) := by
  have h (M : Memref sig .tc .vmem S2048x1024 .bf16) (f : Vec F S2048x1024 .bf16) := rows_split (F := F) c M fullShare f
  unfold landing room
  iintro ⟨⟨%f0, H0⟩, ⟨%f1, H1⟩, ⟨%f2, H2⟩⟩
  ihave G0 := (Entails.of_eq (owns_whole (c : Thread nD τ) cc0_scratch0 fullShare f0).symm) $$ H0
  ihave G1 := (Entails.of_eq (owns_whole (c : Thread nD τ) cc0_scratch1 fullShare f1).symm) $$ H1
  ihave G2 := (Entails.of_eq (owns_whole (c : Thread nD τ) cc0_scratch2 fullShare f2).symm) $$ H2
  ihave A0 := (h lM f0) $$ G0
  ihave A1 := (h rM f1) $$ G1
  ihave A2 := (h pM f2) $$ G2
  icases A0 with ⟨A0, B0⟩
  icases A1 with ⟨A1, B1⟩
  icases A2 with ⟨A2, B2⟩
  isplitl [A0 B0 A2]
  · isplitl [A0]; · iexists _; iexact A0
    isplitl [B0]; · iexists _; iexact B0
    iexists _; iexact A2
  isplitl [B1]; · iexists _; iexact B1
  isplitl [A1]; · iexists _; iexact A1
  iexists _; iexact B2

/-- Once all six have landed, the landing buffers are whole again. -/
theorem landed : (iprop(rPay m ρ 0 c ∗ rPay m ρ 1 c ∗ rPay m ρ 2 c ∗ rPay m ρ 3 c ∗ rPay m ρ 4 c ∗ rPay m ρ 5 c) : sProp 𝕄) ⊢ landing (F := F) c := by
  have h (M : Memref sig .tc .vmem S2048x1024 .bf16) (X Y : Vec F S1024x1024 .bf16) := rows_join (F := F) c M fullShare X Y
  unfold landing rPay
  iintro ⟨H0, H1, H2, H3, H4, H5⟩
  ihave A0 := (h lM _ _) $$ [H0 H1]
  · isplitl [H0]; · iexact H0
    iexact H1
  ihave A1 := (h rM _ _) $$ [H3 H2]
  · isplitl [H3]; · iexact H3
    iexact H2
  ihave A2 := (h pM _ _) $$ [H4 H5]
  · isplitl [H4]; · iexact H4
    iexact H5
  icases A0 with ⟨%X0, A0⟩
  icases A1 with ⟨%X1, A1⟩
  icases A2 with ⟨%X2, A2⟩
  ihave G0 := (Entails.of_eq (owns_whole (c : Thread nD τ) cc0_scratch0 fullShare X0)) $$ A0
  ihave G1 := (Entails.of_eq (owns_whole (c : Thread nD τ) cc0_scratch1 fullShare X1)) $$ A1
  ihave G2 := (Entails.of_eq (owns_whole (c : Thread nD τ) cc0_scratch2 fullShare X2)) $$ A2
  isplitl [G0]; · iexists X0; iexact G0
  isplitl [G1]; · iexists X1; iexact G1
  iexists X2; iexact G2

/-- The device keeps half a share of its block and lends the rest to its four copies, -/
theorem lend : owns (c : Thread nD τ) aM fullShare (astg m ρ c)
    ⊢ (iprop(owns (c : Thread nD τ) aM fullShare.left (astg m ρ c) ∗ sPay m ρ 0 c ∗ sPay m ρ 1 c ∗ sPay m ρ 2 c ∗ sPay m ρ 3 c) : sProp 𝕄) := by
  unfold sPay
  iintro H
  ihave H := (owns_halves (c : Thread nD τ) aM fullShare (astg m ρ c)).1 $$ H
  icases H with ⟨HL, HR⟩
  ihave H := (owns_halves (c : Thread nD τ) aM fullShare.right (astg m ρ c)).1 $$ HR
  icases H with ⟨H1, H2⟩
  ihave A := (rows_split c aM fullShare.right.left (astg m ρ c)) $$ H1
  ihave B := (rows_split c aM fullShare.right.right (astg m ρ c)) $$ H2
  icases A with ⟨A0, A1⟩
  icases B with ⟨B0, B1⟩
  isplitl [HL]; · iexact HL
  isplitl [A0]; · iexact A0
  isplitl [A1]; · iexact A1
  isplitl [B1]; · iexact B1
  iexact B0

/-- and has it whole again when they are done. -/
theorem unlend : (iprop(owns (c : Thread nD τ) aM fullShare.left (astg m ρ c) ∗ sPay m ρ 0 c ∗ sPay m ρ 1 c ∗ sPay m ρ 2 c ∗ sPay m ρ 3 c) : sProp 𝕄)
    ⊢ owns (c : Thread nD τ) aM fullShare (astg m ρ c) := by
  haveI : ∀ e, Nonempty (Elt F e) := Elt.nonempty F
  unfold sPay
  iintro ⟨HL, A0, A1, B1, B0⟩
  ihave H1 := (rows_rejoin c aM fullShare.right.left (astg m ρ c)) $$ [A0 A1]
  · isplitl [A0]; · iexact A0
    iexact A1
  ihave H2 := (rows_rejoin c aM fullShare.right.right (astg m ρ c)) $$ [B0 B1]
  · isplitl [B0]; · iexact B0
    iexact B1
  ihave HR := (owns_halves (c : Thread nD τ) aM fullShare.right (astg m ρ c)).2 $$ [H1 H2]
  · isplitl [H1]; · iexact H1
    iexact H2
  iapply (owns_halves (c : Thread nD τ) aM fullShare (astg m ρ c)).2
  isplitl [HL]; · iexact HL
  iexact HR

/-- Of a half block that has landed and is passed on, the device keeps half a share. -/
theorem relay0 : rPay m ρ 0 c ⊣⊢ (iprop(owns (c : Thread nD τ) (loM lM) fullShare.left (val m ρ 0 (org 0 c)) ∗ sPay m ρ 4 c) : sProp 𝕄) :=
  owns_halves (c : Thread nD τ) (loM lM) fullShare (val m ρ 0 (org 0 c))
theorem relay2 : rPay m ρ 2 c ⊣⊢ (iprop(owns (c : Thread nD τ) (hiM rM) fullShare.left (val m ρ 2 (org 2 c)) ∗ sPay m ρ 5 c) : sProp 𝕄) :=
  owns_halves (c : Thread nD τ) (hiM rM) fullShare (val m ρ 2 (org 2 c))
/-- A half block that has landed, as the kernel's loads name its buffer. -/
theorem got1 : rPay m ρ 1 c = (owns (c : Thread nD τ) (hiM lM) fullShare (val m ρ 1 (org 1 c)) : sProp 𝕄) := rfl
theorem got3 : rPay m ρ 3 c = (owns (c : Thread nD τ) (loM rM) fullShare (val m ρ 3 (org 3 c)) : sProp 𝕄) := rfl
theorem got4 : rPay m ρ 4 c = (owns (c : Thread nD τ) (loM pM) fullShare (val m ρ 4 (org 4 c)) : sProp 𝕄) := rfl
theorem got5 : rPay m ρ 5 c = (owns (c : Thread nD τ) (hiM pM) fullShare (val m ρ 5 (org 5 c)) : sProp 𝕄) := rfl

end Parts

omit [FloatOps F] in
/-- What the device tells each neighbour, read from its own side. -/
theorem payload_prv (c : Dev nD) : (sched (F := F) m ρ).payload (barCell (prv c)) 0 true = iprop(room 0 c ∗ room 1 c ∗ room 4 c) := by
  show barT (prv c) = _; unfold barT; rw [nxt_prv]
omit [FloatOps F] in
theorem payload_nxt (c : Dev nD) : (sched (F := F) m ρ).payload (barCell (nxt c)) 0 false = iprop(room 2 c ∗ room 3 c ∗ room 5 c) := by
  show barF (nxt c) = _; unfold barF; rw [prv_nxt]

/-- The barrier lies below every copy's receiver. -/
theorem bar_below (c : Dev nD) : ∀ i ∈ order, lv (barCell c) () < lv (rCell i c) () := by revert c; decide
/-- The semaphores of the copies received first lie below those of the copies still to be started then. -/
theorem first_below (c : Dev nD) : ∀ i ∈ [(4 : Fin 6), 5], lv (rCell 0 c) () < lv (rCell i c) () := by revert c; decide
theorem second_below (c : Dev nD) : ∀ i ∈ [(5 : Fin 6)], lv (rCell 2 c) () < lv (rCell i c) () := by revert c; decide

/-! ## The body -/

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- COMPUTING one half block that arrived. -/
theorem wp_piece (c : Dev nD) (M : Memref sig .tc .vmem S2048x1024 .bf16) (h : Rect S2048x1024) {hh : ∀ a, h.stride a = 1} {r : Rect S8192x2048}
    (pay : (h.shape.Idx → Elt F .bf16) → Vec F S1024x2048 .bf16 → r.shape.Idx → Elt F .bf16) {q q' : PosShare TreeShare} {X : h.shape.Idx → Elt F .bf16}
    {B : Vec F S1024x2048 .bf16} {g : Out F} {inb}
    {h0 : M.view.LoadsAt h.toLoadRect} {hl : bM.view.LoadsAt (Rect.unit (s := S1024x2048) ![0, 0] S1024x2048.size inb).toLoadRect}
    {hl' : oM.view.LoadsAt r.toLoadRect} {hx : (oM.access r).Stores Finset.univ} {hm : (Finset.univ : Finset r.shape.Idx) = Finset.univ ∨ ∀ a, r.stride a = 1}
    {α : Type} {Q : α → sProp 𝕄} {kk : PUnit → Prog (TpuEff nD τ sig (Elt F) Λ₀ .tc) α} :
    iprop(owns (c : Thread nD τ) (M.slice h hh) q X ∗ owns (c : Thread nD τ) bM q' B ∗ outPts c g)
      ⊢ iprop(((owns (c : Thread nD τ) (M.slice h hh) q X ∗ owns (c : Thread nD τ) bM q' B ∗ outPts c (put r (pay X B) g))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load M h.toLoadRect h0) fun v => .op (.load bM (Rect.unit (s := S1024x2048) ![0, 0] S1024x2048.size inb).toLoadRect hl) fun w =>
                .op (.load oM r.toLoadRect hl') fun _ => .op (.store oM r (pay v w) Finset.univ hx hm) kk) Q) := by
  iintro ⟨HX, Hb, Ho⟩ Hk
  iapply (wp_load_slice c (M := M) (r := h) (hr := hh) (q := q) (X := X)) $$ HX
  iintro HX
  iapply (wp_put c (r := r) (pay X)) $$ [Hb Ho]
  · isplitl [Hb] <;> iassumption
  iintro ⟨Hb, Ho⟩
  iapply Hk
  isplitl [HX]; · iexact HX
  isplitl [Hb] <;> iassumption

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

def bodyPre (K : Dev nD × Fin 13 → ℕ) (c : Dev nD) : sProp 𝕄 :=
  iprop((ghost m ρ K c ∗ cred (tallyAt (barCell c) () 2) ∗ bigSep Finset.univ (fun i : Fin 6 => cred (tallyAt (rCell i c) () N)) ∗ levAts L lv ∗ landing c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (astg m ρ c) ∗ stg c cc0_stg1_0 (bstg m ρ c) ∗ stg c cc0_stg2_0 (outAt m ρ c))

set_option maxHeartbeats 1600000 in
/-- The body, effect by effect in program order. -/
theorem sound_body (K : Dev nD × Fin 13 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part7_eq_skeleton]; unfold k0_part7_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold bodyPre ghost
  simp only [bigSep_fin6]
  iintro ⟨⟨⟨⟨#HR, Hbar, HtP, HtN, ⟨K0, K1, K2, K3, K4, K5⟩, ⟨P0, P1, P2, P3, P4, P5⟩⟩, Hcb, ⟨C0, C1, C2, C3, C4, C5⟩, #Hlev, Hland⟩,
    Ho, ⟨%d0, %g0, %hg0, Ha⟩, ⟨%d1, %g1, %hg1, Hb⟩, ⟨%d2, %g2, %hg2, Hout⟩⟩, Hk⟩
  have ha : g0 = astg m ρ c := by rw [hg0]; unfold Dat.before; rw [if_pos (fetch_0 t₀)]; rfl
  have hb : g1 = bstg m ρ c := by rw [hg1]; unfold Dat.before; rw [if_pos (fetch_1 t₀)]; rfl
  subst ha hb
  ihave Ha := (Entails.of_eq (owns_whole (c : Thread nD τ) cc0_stg0_0 fullShare (astg m ρ c)).symm) $$ Ha
  ihave Hb := (Entails.of_eq (owns_whole (c : Thread nD τ) cc0_stg1_0 fullShare (bstg m ρ c)).symm) $$ Hb
  ihave Hout := (show (((c : Thread nD τ).loc cc0_stg2_0) ↦{fullShare} g2) ⊢ (outPts c g2 : sProp 𝕄) from Entails.refl _) $$ Hout
  unfold Dat.owesAt Pipeline.owesWithin
  icases Ho with ⟨%W, %hW, HO⟩
  rw [show (dats m ρ 0 c).owed t₀.castSucc = O₀ c from rfl]
  simp only [dev1_eq c, dev2_eq c]
  ihave Hrooms := (rooms c) $$ Hland
  icases Hrooms with ⟨HroomT, HroomF⟩
  -- both neighbours are told there is room, and both are heard
  ihave HRP := (record_at m ρ K (prv c, 0) (kcell_bar (prv c))) $$ HR
  icases HRP with ⟨#HIP, #HrP⟩
  ihave HRN := (record_at m ρ K (nxt c, 0) (kcell_bar (nxt c))) $$ HR
  icases HRN with ⟨#HIN, #HrN⟩
  ihave HRc := (record_at m ρ K (c, 0) (kcell_bar c)) $$ HR
  icases HRc with ⟨#HIc, -⟩
  unfold O₀
  iapply (Rounds.wp_signal 𝒱₀ ER (sched m ρ) (c : Thread nD τ) none (dst := (prv c : Thread nD τ)) (κ := K (prv c, 0))
      (d := true) (by rw [duties_bar]; exact Finset.mem_univ _) (by rfl) () (O₁ c) rfl) $$ [HO HtP HroomT]
  · isplitr; · iexact HIP
    isplitl [HO]; · iexact HO
    isplitl [HtP]; · iexact HtP
    isplitl [HroomT]
    · iapply (Entails.of_eq (payload_prv m ρ c).symm); iexact HroomT
    iexact HrP
  iintro HO
  unfold O₁
  iapply (Rounds.wp_signal 𝒱₀ ER (sched m ρ) (c : Thread nD τ) none (dst := (nxt c : Thread nD τ)) (κ := K (nxt c, 0))
      (d := false) (by rw [duties_bar]; exact Finset.mem_univ _) (by rfl) () (owe order c) rfl) $$ [HO HtN HroomF]
  · isplitr; · iexact HIN
    isplitl [HO]; · iexact HO
    isplitl [HtN]; · iexact HtN
    isplitl [HroomF]
    · iapply (Entails.of_eq (payload_nxt m ρ c).symm); iexact HroomF
    iexact HrN
  iintro HO
  iapply (Rounds.wp_wait_rest_token 𝒱₀ ER (sched m ρ) (c : Thread nD τ) none (κ := K (c, 0))
      (wpE_semWait_eq 𝒱₀ (c : Thread nD τ) none Set.univ) (Set.mem_univ _) () (O := owe order c) (W := W) (R := 0) (m := 0) (T := ∅)
      (by rw [expect_bar]; decide)) $$ [Hcb HO Hbar]
  · isplitr; · iexact HIc
    isplitl [Hcb]; · iexact Hcb
    isplitl [HO]; · iexact HO
    isplitr; · iapply (mayWait_owe c (.reg barS) order (bar_below c)); iexact Hlev
    iexact Hbar
  iintro ⟨HO, Hbar, -, Hpay⟩
  imod (Rounds.cell_close ER (sched m ρ) (Set.mem_univ (K (c, 0))) (fun h => h) (R := 0 + 1) (duties_later m ρ (barCell c))) $$ [Hbar] with Hzb
  · isplitr; · iexact HIc
    iexact Hbar
  ihave Hpay := (Entails.of_eq (rest_bar m ρ c)) $$ Hpay
  unfold barF barT
  icases Hpay with ⟨⟨M2, M3, M5⟩, M0, M1, M4⟩
  ihave HO := (show owes (c : Thread nD τ) (owe order c) _ ⊢ (owing c (owe order c) : sProp 𝕄) from exists_intro _) $$ HO
  -- the first four copies
  ihave Ha := (lend m ρ c) $$ Ha
  icases Ha with ⟨Ha, S0, S1, S2, S3⟩
  iapply (wp_copy m ρ K 0 c _ (dev3_eq c) [2, 1, 3, 4, 5] rfl rfl rfl rfl) $$ [S0 M0 HO K0]
  · isplitr; · iexact HR
    isplitl [S0]; · iexact S0
    isplitl [M0]; · iexact M0
    isplitl [HO] <;> iassumption
  iintro ⟨K0, HO⟩
  iapply (wp_copy m ρ K 2 c _ (dev4_eq c) [1, 3, 4, 5] rfl rfl rfl rfl) $$ [S2 M2 HO K2]
  · isplitr; · iexact HR
    isplitl [S2]; · iexact S2
    isplitl [M2]; · iexact M2
    isplitl [HO] <;> iassumption
  iintro ⟨K2, HO⟩
  iapply (wp_copy m ρ K 1 c _ (dev5_eq c) [3, 4, 5] rfl rfl rfl rfl) $$ [S1 M1 HO K1]
  · isplitr; · iexact HR
    isplitl [S1]; · iexact S1
    isplitl [M1]; · iexact M1
    isplitl [HO] <;> iassumption
  iintro ⟨K1, HO⟩
  iapply (wp_copy m ρ K 3 c _ (dev6_eq c) [4, 5] rfl rfl rfl rfl) $$ [S3 M3 HO K3]
  · isplitr; · iexact HR
    isplitl [S3]; · iexact S3
    isplitl [M3]; · iexact M3
    isplitl [HO] <;> iassumption
  iintro ⟨K3, HO⟩
  -- the device's own block
  iapply (wp_load_all c (M := aM) (X := astg m ρ c) read_a (View.set_whole _)) $$ Ha
  iintro Ha
  iapply (wp_put c (r := R1 c) (k0_pay1 (astg m ρ c))) $$ [Hb Hout]
  · isplitl [Hb] <;> iassumption
  iintro ⟨Hb, Hout⟩
  -- the half blocks as they arrive; two are passed on
  iapply (wp_wait_r m ρ K 0 c [4, 5] (first_below c) rfl (credit_dst 0)) $$ [C0 P0 HO]
  · isplitr; · iexact HR
    isplitr; · iexact Hlev
    isplitl [C0 P0]
    · unfold coming; isplitl [C0] <;> iassumption
    iexact HO
  iintro ⟨HO, Z0, L0⟩
  ihave L0 := (relay0 m ρ c).1 $$ L0
  icases L0 with ⟨L0, S4⟩
  iapply (wp_copy m ρ K 4 c _ (dev7_eq c) [5] rfl rfl rfl rfl) $$ [S4 M4 HO K4]
  · isplitr; · iexact HR
    isplitl [S4]; · iexact S4
    isplitl [M4]; · iexact M4
    isplitl [HO] <;> iassumption
  iintro ⟨K4, HO⟩
  iapply (wp_piece c lM loR (hh := fun _ => rfl) (r := R2 c) k0_pay2) $$ [L0 Hb Hout]
  · isplitl [L0]; · iexact L0
    isplitl [Hb] <;> iassumption
  iintro ⟨L0, Hb, Hout⟩
  iapply (wp_wait_r m ρ K 2 c [5] (second_below c) rfl (credit_dst 2)) $$ [C2 P2 HO]
  · isplitr; · iexact HR
    isplitr; · iexact Hlev
    isplitl [C2 P2]
    · unfold coming; isplitl [C2] <;> iassumption
    iexact HO
  iintro ⟨HO, Z2, L2⟩
  ihave L2 := (relay2 m ρ c).1 $$ L2
  icases L2 with ⟨L2, S5⟩
  iapply (wp_copy m ρ K 5 c _ (dev8_eq c) [] rfl rfl rfl rfl) $$ [S5 M5 HO K5]
  · isplitr; · iexact HR
    isplitl [S5]; · iexact S5
    isplitl [M5]; · iexact M5
    isplitl [HO] <;> iassumption
  iintro ⟨K5, HO⟩
  iapply (wp_piece c rM hiR (hh := fun _ => rfl) (r := R3 c) k0_pay3) $$ [L2 Hb Hout]
  · isplitl [L2]; · iexact L2
    isplitl [Hb] <;> iassumption
  iintro ⟨L2, Hb, Hout⟩
  iapply (wp_wait_r m ρ K 1 c [] (fun _ h => absurd h List.not_mem_nil) rfl (credit_dst 1)) $$ [C1 P1 HO]
  · isplitr; · iexact HR
    isplitr; · iexact Hlev
    isplitl [C1 P1]
    · unfold coming; isplitl [C1] <;> iassumption
    iexact HO
  iintro ⟨HO, Z1, L1⟩
  ihave L1 := (Entails.of_eq (got1 m ρ c)) $$ L1
  iapply (wp_piece c lM hiR (hh := fun _ => rfl) (r := R4 c) k0_pay4 (q := fullShare) (X := val m ρ 1 (org 1 c))) $$ [L1 Hb Hout]
  · isplitl [L1]; · iexact L1
    isplitl [Hb] <;> iassumption
  iintro ⟨L1, Hb, Hout⟩
  iapply (wp_wait_r m ρ K 3 c [] (fun _ h => absurd h List.not_mem_nil) rfl (credit_dst 3)) $$ [C3 P3 HO]
  · isplitr; · iexact HR
    isplitr; · iexact Hlev
    isplitl [C3 P3]
    · unfold coming; isplitl [C3] <;> iassumption
    iexact HO
  iintro ⟨HO, Z3, L3⟩
  ihave L3 := (Entails.of_eq (got3 m ρ c)) $$ L3
  iapply (wp_piece c rM loR (hh := fun _ => rfl) (r := R5 c) k0_pay5 (q := fullShare) (X := val m ρ 3 (org 3 c))) $$ [L3 Hb Hout]
  · isplitl [L3]; · iexact L3
    isplitl [Hb] <;> iassumption
  iintro ⟨L3, Hb, Hout⟩
  iapply (wp_wait_r m ρ K 4 c [] (fun _ h => absurd h List.not_mem_nil) rfl (credit_dst 4)) $$ [C4 P4 HO]
  · isplitr; · iexact HR
    isplitr; · iexact Hlev
    isplitl [C4 P4]
    · unfold coming; isplitl [C4] <;> iassumption
    iexact HO
  iintro ⟨HO, Z4, L4⟩
  ihave L4 := (Entails.of_eq (got4 m ρ c)) $$ L4
  iapply (wp_piece c pM loR (hh := fun _ => rfl) (r := R6 c) k0_pay6 (q := fullShare) (X := val m ρ 4 (org 4 c))) $$ [L4 Hb Hout]
  · isplitl [L4]; · iexact L4
    isplitl [Hb] <;> iassumption
  iintro ⟨L4, Hb, Hout⟩
  iapply (wp_wait_r m ρ K 5 c [] (fun _ h => absurd h List.not_mem_nil) rfl (credit_dst 5)) $$ [C5 P5 HO]
  · isplitr; · iexact HR
    isplitr; · iexact Hlev
    isplitl [C5 P5]
    · unfold coming; isplitl [C5] <;> iassumption
    iexact HO
  iintro ⟨HO, Z5, L5⟩
  ihave L5 := (Entails.of_eq (got5 m ρ c)) $$ L5
  iapply (wp_piece c pM hiR (hh := fun _ => rfl) (r := R7 c) k0_pay7 (q := fullShare) (X := val m ρ 5 (org 5 c))) $$ [L5 Hb Hout]
  · isplitl [L5]; · iexact L5
    isplitl [Hb] <;> iassumption
  iintro ⟨L5, Hb, Hout⟩
  -- all shares are back
  iapply (wp_wait_s m ρ K 0 c rfl (credit_src 0)) $$ [K0 HO]
  · isplitr; · iexact HR
    isplitr; · iexact Hlev
    isplitl [K0] <;> iassumption
  iintro ⟨HO, Y0, S0⟩
  iapply (wp_wait_s m ρ K 1 c rfl (credit_src 1)) $$ [K1 HO]
  · isplitr; · iexact HR
    isplitr; · iexact Hlev
    isplitl [K1] <;> iassumption
  iintro ⟨HO, Y1, S1⟩
  iapply (wp_wait_s m ρ K 2 c rfl (credit_src 2)) $$ [K2 HO]
  · isplitr; · iexact HR
    isplitr; · iexact Hlev
    isplitl [K2] <;> iassumption
  iintro ⟨HO, Y2, S2⟩
  iapply (wp_wait_s m ρ K 3 c rfl (credit_src 3)) $$ [K3 HO]
  · isplitr; · iexact HR
    isplitr; · iexact Hlev
    isplitl [K3] <;> iassumption
  iintro ⟨HO, Y3, S3⟩
  iapply (wp_wait_s m ρ K 4 c rfl (credit_src 4)) $$ [K4 HO]
  · isplitr; · iexact HR
    isplitr; · iexact Hlev
    isplitl [K4] <;> iassumption
  iintro ⟨HO, Y4, S4⟩
  iapply (wp_wait_s m ρ K 5 c rfl (credit_src 5)) $$ [K5 HO]
  · isplitr; · iexact HR
    isplitr; · iexact Hlev
    isplitl [K5] <;> iassumption
  iintro ⟨HO, Y5, S5⟩
  rw [wp_ret]; imodintro
  iapply Hk
  ihave Ha := (unlend m ρ c) $$ [Ha S0 S1 S2 S3]
  · isplitl [Ha]; · iexact Ha
    isplitl [S0]; · iexact S0
    isplitl [S1]; · iexact S1
    isplitl [S2] <;> iassumption
  ihave L0 := (relay0 m ρ c).2 $$ [L0 S4]
  · isplitl [L0] <;> iassumption
  ihave L2 := (relay2 m ρ c).2 $$ [L2 S5]
  · isplitl [L2] <;> iassumption
  ihave L1 := (Entails.of_eq (got1 m ρ c).symm) $$ L1
  ihave L3 := (Entails.of_eq (got3 m ρ c).symm) $$ L3
  ihave L4 := (Entails.of_eq (got4 m ρ c).symm) $$ L4
  ihave L5 := (Entails.of_eq (got5 m ρ c).symm) $$ L5
  ihave Hland := (landed m ρ c) $$ [L0 L1 L2 L3 L4 L5]
  · isplitl [L0]; · iexact L0
    isplitl [L1]; · iexact L1
    isplitl [L2]; · iexact L2
    isplitl [L3]; · iexact L3
    isplitl [L4] <;> iassumption
  ihave Ha := (Entails.of_eq (owns_whole (c : Thread nD τ) cc0_stg0_0 fullShare (astg m ρ c))) $$ Ha
  ihave Hb := (Entails.of_eq (owns_whole (c : Thread nD τ) cc0_stg1_0 fullShare (bstg m ρ c))) $$ Hb
  unfold bodyPost Φ₁ Dat.owesAt Pipeline.owesWithin
  rw [show (dats m ρ 0 c).owed t₀.succ = 0 from rfl]
  simp only [bigSep_fin6]
  unfold owing
  icases HO with ⟨%W', HO⟩
  isplitl [Hland Hzb Y0 Y1 Y2 Y3 Y4 Y5 Z0 Z1 Z2 Z3 Z4 Z5]
  · isplitl [Hland]; · iexact Hland
    isplitl [Hzb]; · iexact Hzb
    isplitl [Y0 Y1 Y2 Y3 Y4 Y5]
    · isplitl [Y0]; · iexact Y0
      isplitl [Y1]; · iexact Y1
      isplitl [Y2]; · iexact Y2
      isplitl [Y3]; · iexact Y3
      isplitl [Y4] <;> iassumption
    isplitl [Z0]; · iexact Z0
    isplitl [Z1]; · iexact Z1
    isplitl [Z2]; · iexact Z2
    isplitl [Z3]; · iexact Z3
    isplitl [Z4] <;> iassumption
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _
  isplitr
  · ipureintro; exact outFrom_any m ρ c g2 _
  unfold outPts outFrom; iexact Hout

end Cert.KernelIdeal.Exchange

end
-- ==== Proof.KernelIdeal.Launch.lean ====
/-
# The launch

The four devices are launched together. Their semaphores are opened, the turns at them are dealt to the
devices that take them, what each device owes the others at the start is counted, and the pipeline's launch
theorem gives the run of the whole program.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline asks for it -/

section Body

theorem owns_whole_eq (c : Dev nD) (b : Ref sig .tc) (X : b.ty.Contents (Elt F)) :
    (owns (c : Thread nD τ) (Memref.whole b) fullShare X : sProp 𝕄) = iprop(∃ f, ⌜f = X⌝ ∗ (((c : Thread nD τ).loc b) ↦{fullShare} f)) := by
  unfold owns; simp only [Memref.view_whole, View.read_whole, View.set_whole]

set_option maxRecDepth 4000 in
/-- What the body is given. -/
def given (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
attribute [local irreducible] outAt in
/-- The body does, at the call's one point, what the pipeline asks of it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show given m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m ρ c)
  unfold given Φ₀ start
  iintro ⟨⟨⟨⟨%K, Hg⟩, H1, H2, H3⟩, Hl⟩, Ho, Ha, Hb, Hout⟩
  iapply (sound_body m ρ K c fun _ => bodyPost m ρ c)
  unfold bodyPre
  isplitr []
  · isplitl [Hg H1 H2 H3 Hl]
    · isplitl [Hg]; · iexact Hg
      isplitl [H1]; · iexact H1
      isplitl [H2]; · iexact H2
      isplitl [H3]; · iexact H3
      iexact Hl
    isplitl [Ho]; · iexact Ho
    isplitl [Ha]; · iexact Ha
    isplitl [Hb] <;> iassumption
  · iintro H; iexact H

end Body

/-! ## The launch: minting every cell and turn -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every cell of the exchange. -/
def allCells : Finset (GSem nD τ sig) := Finset.univ.map ⟨kcell, kcell_injective⟩

/-- Every turn: one at each cell, and the second at each barrier. -/
abbrev turn : Dev nD ⊕ (Dev nD × Fin 13) → GSem nD τ sig × ℕ × Bool
  | .inl c => (barCell c, 0, true)
  | .inr ck => (kcell ck, 0, false)
theorem turn_injective : Function.Injective turn := by
  rintro (c | ck) (c' | ck') h
  · exact congrArg Sum.inl (congrArg (fun x : GSem nD τ sig × ℕ × Bool => x.1.1.1) h)
  · exact absurd (congrArg (fun x : GSem nD τ sig × ℕ × Bool => x.2.2) h) Bool.noConfusion
  · exact absurd (congrArg (fun x : GSem nD τ sig × ℕ × Bool => x.2.2) h) Bool.noConfusion
  · exact congrArg Sum.inr (kcell_injective (congrArg (fun x : GSem nD τ sig × ℕ × Bool => x.1) h))
def allTurns : Finset (GSem nD τ sig × ℕ × Bool) := Finset.univ.map ⟨turn, turn_injective⟩

def u₀ : UU := (initOf (Pipeline.cells cfgs cellOf_inj) (Pipeline.launchToks cfgs cellOf_inj), initOf allCells allTurns)

/-- The turns at device `c`'s own cells. -/
def turns (c : Dev nD) : sProp 𝕄 :=
  iprop(dutyTok ER (barCell c) 0 true ∗ bigSep Finset.univ fun k : Fin 13 => dutyTok ER (kcell (c, k)) 0 false)

/-- What the launch deals device `c`, -/
def G (c : Dev nD) : sProp 𝕄 :=
  iprop((bigSep Finset.univ fun k : Fin 13 => roundState ER (sched m ρ) (kcell (c, k)) 0)
    ∗ (bigSep Finset.univ fun k : Fin 13 => iprop(atPos ER (kcell (c, k)) 0 ∅ 0 ∗ reached ER (kcell (c, k)) 0)) ∗ turns c)
/-- and what the device holds once the cells are opened and the turns dealt out. -/
def G' (c : Dev nD) : sProp 𝕄 := iprop(∃ K, ghost m ρ K c)

omit [FloatOps F] in
/-- Thirteen things: the barrier's, the six senders', the six receivers'. -/
theorem bigSep_fin13 (Φ : Fin 13 → sProp 𝕄) :
    bigSep Finset.univ Φ = iprop(Φ 0 ∗ bigSep Finset.univ (fun i : Fin 6 => Φ (ks i)) ∗ bigSep Finset.univ (fun i : Fin 6 => Φ (kr i))) := by
  rw [bigSep_univ_equiv (finSumFinEquiv (m := 1) (n := 12)) Φ, BI.bigSep_univ_sum,
    bigSep_univ_equiv (finSumFinEquiv (m := 6) (n := 6)) (fun b : Fin 12 => Φ ((finSumFinEquiv (m := 1) (n := 12)) (.inr b))), BI.bigSep_univ_sum,
    bigSep_univ_eq_bigSepL [(0 : Fin 1)] (by decide) (by decide), bigSepL_singleton]
  have e1 : ∀ i : Fin 6, (finSumFinEquiv (m := 1) (n := 12)) (.inr ((finSumFinEquiv (m := 6) (n := 6)) (.inl i))) = ks i := by decide
  have e2 : ∀ i : Fin 6, (finSumFinEquiv (m := 1) (n := 12)) (.inr ((finSumFinEquiv (m := 6) (n := 6)) (.inr i))) = kr i := by decide
  simp only [e1, e2]
  rfl

omit [FloatOps F] in
theorem mint : BI.own (ER (initOf allCells allTurns)) ⊢ (|==> bigSep Finset.univ (G m ρ) : sProp 𝕄) := by
  have hX (Φ : GSem nD τ sig → sProp 𝕄) : bigSep allCells Φ = bigSep Finset.univ fun c : Dev nD => bigSep Finset.univ fun k : Fin 13 => Φ (kcell (c, k)) := by
    unfold allCells; rw [bigSep_map, bigSep_univ_prod]; rfl
  have hT : bigSep allTurns (fun x => (dutyTok ER x.1 x.2.1 x.2.2 : sProp 𝕄)) = bigSep Finset.univ fun c : Dev nD => turns c := by
    unfold allTurns turns; rw [bigSep_map, BI.bigSep_univ_sum, bigSep_univ_prod, bigSep_sep']; rfl
  iintro HX
  imod (Rounds.fund ER (sched m ρ) allCells allTurns) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## Opening the cells and dealing out the turns -/

omit [FloatOps F] in
/-- The twelve scoped semaphores are the copies' two each; -/
theorem ownSems0_eq (c : Dev nD) : (Pipeline.ownSems0 (Ix := Unit) (Name := ℕ) (U := UU) (Lvl := ℕ) (Val := Elt F) (τ := τ) osem c : sProp 𝕄)
    = iprop(bigSep Finset.univ (fun i : Fin 6 => semVal (sCell i c) 0) ∗ bigSep Finset.univ (fun i : Fin 6 => semVal (rCell i c) 0)) := by
  show bigSep Finset.univ (fun k : Fin 12 => (semVal ((c : Thread nD τ), osem k) 0 : sProp 𝕄)) = _
  have e1 : ∀ i : Fin 6, osem ((finSumFinEquiv (m := 6) (n := 6)) (.inl i)) = .dma (sS i) := by decide
  have e2 : ∀ i : Fin 6, osem ((finSumFinEquiv (m := 6) (n := 6)) (.inr i)) = .dma (rS i) := by decide
  rw [bigSep_univ_equiv (finSumFinEquiv (m := 6) (n := 6)), BI.bigSep_univ_sum]
  simp only [e1, e2]
  rfl
omit [FloatOps F] in
/-- the barrier is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin13]
  simp only [kcell_s, kcell_r]
  iintro ⟨⟨HS, HV⟩, HB⟩
  isplitl [HB]; · iexact HB
  isplitl [HS] <;> iassumption

omit [FloatOps F] in
/-- Each device opens its cells. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ turns c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Where each copy of each device lands, as a bijection. -/
def landsAt : Dev nD × Fin 6 ≃ Dev nD × Fin 6 :=
  ⟨fun p => (tgt p.2 p.1, p.2), fun p => (org p.2 p.1, p.2), fun p => Prod.ext (org_tgt p.2 p.1) rfl, fun p => Prod.ext (tgt_org p.2 p.1) rfl⟩

/-- The turns device `c` takes: at its neighbours' barriers, at its own senders' and at its targets' receivers' cells. -/
def mine (c : Dev nD) : sProp 𝕄 :=
  iprop(dutyTok ER (barCell (prv c)) 0 true ∗ dutyTok ER (barCell (nxt c)) 0 false
    ∗ bigSep Finset.univ (fun i : Fin 6 => dutyTok ER (sCell i c) 0 false)
    ∗ bigSep Finset.univ (fun i : Fin 6 => dutyTok ER (rCell i (tgt i c)) 0 false))

omit [FloatOps F] in
/-- The turns dealt out: every turn goes to the device that takes it. -/
theorem deal : (bigSep Finset.univ fun c : Dev nD => (turns c : sProp 𝕄)) ⊢ bigSep Finset.univ fun c : Dev nD => mine c := by
  have hR : (bigSep Finset.univ fun c : Dev nD => bigSep Finset.univ fun i : Fin 6 => (dutyTok ER (rCell i c) 0 false : sProp 𝕄))
      = bigSep Finset.univ fun c : Dev nD => bigSep Finset.univ fun i : Fin 6 => dutyTok ER (rCell i (tgt i c)) 0 false := by
    rw [← bigSep_univ_prod (fun p : Dev nD × Fin 6 => (dutyTok ER (rCell p.2 p.1) 0 false : sProp 𝕄)),
      ← bigSep_univ_prod (fun p : Dev nD × Fin 6 => (dutyTok ER (rCell p.2 (tgt p.2 p.1)) 0 false : sProp 𝕄))]
    exact bigSep_univ_equiv landsAt _
  unfold turns mine
  simp only [bigSep_fin13, kcell_s, kcell_r, bigSep_sep']
  rw [hR, bigSep_univ_equiv ring.symm (fun c : Dev nD => (dutyTok ER (barCell c) 0 true : sProp 𝕄)),
    bigSep_univ_equiv ring (fun c : Dev nD => (dutyTok ER (kcell (c, 0)) 0 false : sProp 𝕄))]
  exact Entails.refl _

/-- A device's places at its own cells. -/
def places (c : Dev nD) : sProp 𝕄 := bigSep Finset.univ fun k : Fin 13 => atPos ER (kcell (c, k)) 0 ∅ 0

omit [FloatOps F] in
theorem ghost_intro (K : Dev nD × Fin 13 → ℕ) (c : Dev nD) : iprop(records m ρ K ∗ places c ∗ mine c) ⊢ G' m ρ c := by
  unfold places mine G' ghost sKit
  simp only [bigSep_fin13, kcell_s, kcell_r, bigSep_sep']
  iintro ⟨#HR, ⟨HB, HS, HV⟩, T1, T2, TS, TR⟩
  iexists K
  isplitr; · iexact HR
  isplitl [HB]; · iexact HB
  isplitl [T1]; · iexact T1
  isplitl [T2]; · iexact T2
  isplitl [HS TS TR]
  · isplitl [HS]; · iexact HS
    isplitl [TS] <;> iassumption
  iexact HV

omit [FloatOps F] in
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ turns c) : sProp 𝕄)
      ⊢ bigSep Finset.univ (G' m ρ) := by
  simp only [bigSep_sep']
  rw [← bigSep_univ_prod (fun ck : Dev nD × Fin 13 => iprop(∃ κ : ℕ, cellInv ER (sched m ρ) κ (kcell ck))),
    ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (sched m ρ) κ (kcell ck) : sProp 𝕄))) $$ HI
  icases HK with ⟨%K, #HI⟩
  ihave Htk := (deal (F := F)) $$ Htok
  iapply (bigSep_with_persistent (R := records m ρ K) (Φ := fun c => iprop(places c ∗ mine c)) fun c _ => ghost_intro m ρ K c)
  isplitr
  · unfold records; rw [bigSep_sep']
    isplitl; · iexact HI
    iexact HR
  · rw [bigSep_sep']
    isplitl [Hat]; · unfold places; iexact Hat
    iexact Htk

omit [FloatOps F] in
/-- All devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (regroup m ρ))

/-! ## The credit owed at launch -/

theorem bar_eq_iff {a b : Dev nD} : barCell a = barCell b ↔ a = b :=
  ⟨fun h => congrArg (fun g : GSem nD τ sig => g.1.1) h, fun h => h ▸ rfl⟩
theorem rS_injective : ∀ {i j : Fin 6}, rS i = rS j → i = j := fun h => Fin.ext (Nat.add_left_cancel (congrArg Fin.val h))
theorem r_eq_iff {i j : Fin 6} {a b : Dev nD} : rCell i a = rCell j b ↔ i = j ∧ a = b :=
  ⟨fun h => ⟨rS_injective (SemLoc.dma.inj (congrArg Prod.snd h)), congrArg (fun g : GSem nD τ sig => g.1.1) h⟩, fun ⟨h, h'⟩ => h ▸ h' ▸ rfl⟩
theorem r_ne_bar {i : Fin 6} {a b : Dev nD} : rCell i a ≠ barCell b := fun h => by have := congrArg Prod.snd h; cases this

/-- No copy owes a barrier anything; -/
theorem owe_bar (l : List (Fin 6)) (d c : Dev nD) : owe l d (barCell c) () = 0 := by
  by_contra h
  obtain ⟨i, -, e⟩ := owe_pos (Nat.pos_of_ne_zero h)
  exact r_ne_bar e.symm
/-- and a receiver's cell is owed by exactly one device, whose copy lands there. -/
theorem owe_r (i : Fin 6) (c d : Dev nD) : ∀ l : List (Fin 6), l.Nodup → owe l d (rCell i c) () = if i ∈ l ∧ d = org i c then N else 0
  | [], _ => by rw [if_neg fun h => List.not_mem_nil h.1]; rfl
  | j :: l, hl => by
    have e : (rCell i c = rCell j (tgt j d)) ↔ (i = j ∧ d = org i c) := by
      rw [r_eq_iff]
      constructor
      · rintro ⟨rfl, rfl⟩; exact ⟨rfl, (org_tgt _ _).symm⟩
      · rintro ⟨rfl, rfl⟩; exact ⟨rfl, (tgt_org _ _).symm⟩
    unfold owe due
    rw [Pi.add_apply, Finsupp.add_apply, tallyAt_apply, owe_r i c d l hl.of_cons]
    by_cases hd : d = org i c
    · by_cases hij : i = j
      · subst hij
        rw [if_neg fun h => (List.nodup_cons.mp hl).1 h.1, if_pos ⟨e.mpr ⟨rfl, hd⟩, rfl⟩, if_pos ⟨List.mem_cons_self, hd⟩, Nat.zero_add]
      · rw [if_neg (c := rCell i c = _ ∧ _) fun h => hij (e.mp h.1).1, Nat.add_zero]
        refine if_congr ?_ rfl rfl
        rw [List.mem_cons]
        exact ⟨fun h => ⟨.inr h.1, h.2⟩, fun h => ⟨h.1.resolve_left hij, h.2⟩⟩
    · rw [if_neg fun h => hd h.2, if_neg fun h => hd (e.mp h.1).2, if_neg fun h => hd h.2]

/-- What device `d` owes at launch to device `c`'s barrier, -/
theorem owed_bar (d c : Dev nD) : O₀ d (barCell c) () = (if d = prv c then 1 else 0) + (if d = nxt c then 1 else 0) := by
  have h1 : (barCell c = barCell (nxt d) ∧ () = ()) ↔ d = prv c := by
    rw [bar_eq_iff]; exact ⟨fun h => by rw [h.1, prv_nxt], fun h => ⟨by rw [h, nxt_prv], rfl⟩⟩
  have h2 : (barCell c = barCell (prv d) ∧ () = ()) ↔ d = nxt c := by
    rw [bar_eq_iff]; exact ⟨fun h => by rw [h.1, nxt_prv], fun h => ⟨by rw [h, prv_nxt], rfl⟩⟩
  unfold O₀ O₁
  rw [Pi.add_apply, Finsupp.add_apply, Pi.add_apply, Finsupp.add_apply, tallyAt_apply, tallyAt_apply, owe_bar, Nat.zero_add]
  exact congrArg₂ _ (if_congr h1 rfl rfl) (if_congr h2 rfl rfl)
/-- and to its receiver's cell of copy `i`. -/
theorem owed_r (i : Fin 6) (d c : Dev nD) : O₀ d (rCell i c) () = if d = org i c then N else 0 := by
  have hi : i ∈ order := by revert i; decide
  unfold O₀ O₁
  rw [Pi.add_apply, Finsupp.add_apply, Pi.add_apply, Finsupp.add_apply, tallyAt_apply, tallyAt_apply,
    if_neg fun h => r_ne_bar h.1, if_neg fun h => r_ne_bar h.1, owe_r i c d order (by decide)]
  exact if_congr ⟨fun h => h.2, fun h => ⟨hi, h⟩⟩ rfl rfl

/-- So each barrier is owed two, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
/-- and each receiver's cell one half block. -/
theorem launch_r (i : Fin 6) (c : Dev nD) :
    tallyOn (rCell i c) (launchCredit (Pipeline.owing O₀) 0 (rCell i c)) = (tallyAt (rCell i c) () N : CellTallies nD τ sig Unit) := by
  unfold tallyAt; refine congrArg _ (Finsupp.ext fun u => ?_); cases u
  rw [Pipeline.launchCredit_owing, Finsupp.single_eq_same, Finset.sum_congr rfl fun d _ => owed_r i d c, Finset.sum_ite_eq' Finset.univ (org i c) fun _ => N,
    if_pos (Finset.mem_univ _)]

/-- The receivers' semaphores as places among a device's semaphores. -/
def rSems : Fin 6 ↪ SemLoc sig := ⟨fun i => .dma (rS i), fun _ _ h => rS_injective (SemLoc.dma.inj h)⟩

omit [FloatOps F] in
theorem creds (c : Dev nD) :
    (Pipeline.launchCred O₀ c : sProp 𝕄)
      ⊢ iprop(cred (tallyAt (barCell c) () 2) ∗ bigSep Finset.univ fun i : Fin 6 => cred (tallyAt (rCell i c) () N)) := by
  unfold Pipeline.launchCred
  rw [bigSep_univ_at _ (SemLoc.reg barS), launch_bar]
  refine sep_mono_right ?_
  refine (bigSep_subset (t := Finset.univ.map rSems) fun s hs => ?_).trans ?_
  · obtain ⟨i, -, rfl⟩ := Finset.mem_map.mp hs
    refine Finset.mem_erase.mpr ⟨?_, Finset.mem_univ _⟩
    intro h; cases h
  · rw [BI.bigSep_map]
    exact bigSep_mono fun i _ => Entails.of_eq (congrArg (fun T => (cred T : sProp 𝕄)) (launch_r i c))

/-! ## The run's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ landing
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ landing
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What each window's array ends with. -/
def finalA (c : Dev nD) (w : Fin cfg0.W) : Buf (Elt F) ((cfg0.win w).arr.view.loc (c : Thread nD τ)) := (dats m ρ 0 c).arrAt w cfg0.N

set_option maxRecDepth 8000 in
/-- From any memory with all semaphores at zero, every fair run of the four devices ends, each array holding what was
    computed for it and every semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the run leaves -/

/-- The arguments end as they began. -/
theorem final_arg0 (c : Dev nD) : finalA m ρ c (0 : Fin 3) = m ((c : Thread nD τ).loc main_arg0) :=
  (dats (F := F) m ρ 0 c).arrAt_in (0 : Fin 3) rfl _
theorem final_arg1 (c : Dev nD) : finalA m ρ c (1 : Fin 3) = m ((c : Thread nD τ).loc main_arg1) :=
  (dats (F := F) m ρ 0 c).arrAt_in (1 : Fin 3) rfl _

/-- The run, read at the arguments: they are kept, and every semaphore ends at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (0 : Fin 3)).trans (final_arg0 m ρ c), (h.1 c (1 : Fin 3)).trans (final_arg1 m ρ c)⟩, h.2⟩) (run_main m ρ)

end Cert.KernelIdeal.Exchange

end
-- ==== Proof.KernelIdeal.Value.lean ====
/-
# What the run computes

Over exact numbers the result on every device is the product of the whole matrices: each rectangle the kernel
writes is the product of the rows that belong there with the second factor.
-/
module

public import proofs.«01_k».proof.Proof.KernelIdeal.Launch
public import Idealize.ShloMosaic.Lib.MatmulPlain
public import Idealize.ShloMosaic.Lib.ValueIdx
public import Idealize.ShloMosaic.Lib.Pipeline.ValueKit
public import Idealize.ShloMosaic.Lib.Layout

@[expose] public section

noncomputable section

namespace Cert.KernelIdeal.Exchange

open Cert.KernelIdeal Cert.KernelIdeal.Gen
open Idealize.ShloMosaic Idealize.ShloMosaic.TcCoe Idealize.SL.Sem
open Idealize.ShloMosaic.Pipeline (Dat)
open scoped BigOperators

/-! ## The arrays and the buffers -/

section Arrays

variable {F : FTy → Type} [FloatOps F]
variable (m : (ℓ : Loc nD τ sig) → Buf (Elt F) ℓ) (ρ : Dev nD → PrngReg)

theorem index_0 : (fun a => win0_0.index t0_0 a * main_arg0.ty.shape.size a) = fun _ => 0 := funext fun a => by fin_cases a <;> decide
theorem index_1 : (fun a => win0_1.index t0_0 a * main_arg1.ty.shape.size a) = fun _ => 0 := funext fun a => by fin_cases a <;> decide

/-- What is staged of the two arguments is the arguments. -/
theorem astg_eq (c : Dev nD) : astg m ρ c = m ((c : Thread nD τ).loc main_arg0) :=
  Memref.read_access_unit_zero (Elt F) main_arg0 index_0 (fun a => by rw [congrFun index_0 a]; simp) _
theorem bstg_eq (c : Dev nD) : bstg m ρ c = m ((c : Thread nD τ).loc main_arg1) :=
  Memref.read_access_unit_zero (Elt F) main_arg1 index_1 (fun a => by rw [congrFun index_1 a]; simp) _

attribute [local irreducible] outAt in
/-- The result's array ends holding what the kernel left in its buffer. -/
theorem final_out (c : Dev nD) : finalA m ρ c (2 : Fin 3) = outAt m ρ c := by
  refine (dats m ρ 0 c).arrAt_eq_of_after_last 2 t0_0 (by decide +kernel) _ fun j => ?_
  blk_simp
  rfl

end Arrays

/-! ## The product -/

section Product

/-- The product of the two whole matrices. -/
def product (A : FVec Ideal ⟨2, ![8192, 1024]⟩ .bf16) (B : FVec Ideal ⟨2, ![1024, 2048]⟩ .bf16) : FVec Ideal ⟨2, ![8192, 2048]⟩ .bf16 :=
  fun i => ∑ k : Fin 1024, A (ValueIdx.ix2 (i 0) k) * B (ValueIdx.ix2 k (i 1))

/-- One entry of a product onto zero, rounded: over exact numbers, the sum of products. -/
theorem entry {M K N : ℕ} (a : FVec Ideal ⟨2, ![M, K]⟩ .bf16) (b : FVec Ideal ⟨2, ![K, N]⟩ .bf16) (j : (⟨2, ![M, N]⟩ : Shape).Idx) :
    (truncf .bf16 (matmul (DotDims.plain M K N) none a b (constant ⟨2, ![M, N]⟩ .f32 0x00000000#32)) bitsLt_bf16_f32 : FVec Ideal ⟨2, ![M, N]⟩ .bf16) j
      = ∑ k : Fin K, a (ValueIdx.ix2 (j 0) k) * b (ValueIdx.ix2 k (j 1)) := by
  rw [ValueIdx.truncf_apply]
  conv_lhs => rw [ValueIdx.eq_ix2 j]
  refine (Ideal.matmul_plain_apply none a b _ (j 0) (j 1)).trans ?_
  rw [ValueIdx.constant_apply, Ideal.ofBits_zero_f32, zero_add]

/-- A product whose left factor is a stretch of rows of the whole left factor, read where those rows belong, is the whole product's. -/
theorem rows {M n : ℕ} (A : FVec Ideal ⟨2, ![8192, 1024]⟩ .bf16) (B : FVec Ideal ⟨2, ![1024, 2048]⟩ .bf16)
    (a : FVec Ideal ⟨2, ![M, 1024]⟩ .bf16)
    (h : ∀ (x : (⟨2, ![M, 1024]⟩ : Shape).Idx) (y : (⟨2, ![8192, 1024]⟩ : Shape).Idx), (y 0).val = n + (x 0).val → (y 1).val = (x 1).val → a x = A y)
    (j : (⟨2, ![M, 2048]⟩ : Shape).Idx) (i : (⟨2, ![8192, 2048]⟩ : Shape).Idx) (h0 : (i 0).val = n + (j 0).val) (h1 : (i 1).val = (j 1).val) :
    ∑ k : Fin 1024, a (ValueIdx.ix2 (j 0) k) * B (ValueIdx.ix2 k (j 1)) = product A B i := by
  refine Finset.sum_congr rfl fun k _ => ?_
  have e : j 1 = i 1 := Fin.ext h1.symm
  rw [h (ValueIdx.ix2 (j 0) k) (ValueIdx.ix2 (i 0) k) h0 rfl, e]

end Product

/-! ## The result of each device -/

/-- Where an element of a rectangle of whole rows lies. -/
theorem at_rows {d : Fin 2 → Nat} {off sz : Fin 2 → Nat} {inb : ∀ a : Fin 2, off a + sz a ≤ d a} {n : ℕ} (h : off = ![n, 0])
    (j : (Rect.unit (s := ⟨2, d⟩) off sz inb).shape.Idx) :
    ((Rect.unit (s := ⟨2, d⟩) off sz inb).emb j (0 : Fin 2)).val = n + (j (0 : Fin 2)).val
      ∧ ((Rect.unit (s := ⟨2, d⟩) off sz inb).emb j (1 : Fin 2)).val = (j (1 : Fin 2)).val := by
  subst h
  exact ⟨ValueKit.rect_emb_unit_val (s := ⟨2, d⟩) ![n, 0] sz inb j (0 : Fin 2),
    (ValueKit.rect_emb_unit_val (s := ⟨2, d⟩) ![n, 0] sz inb j (1 : Fin 2)).trans (Nat.zero_add _)⟩

/-- The first factor is the four devices' blocks, one under the other. -/
theorem tiles : Layout.Tiles ⟨2, ![2048, 1024]⟩ ⟨2, ![8192, 1024]⟩ 0 4 := by decide

section Result

variable (m : (ℓ : Loc nD τ sig) → Buf (Elt Ideal) ℓ) (ρ : Dev nD → PrngReg)
variable (A : FVec Ideal ⟨2, ![8192, 1024]⟩ .bf16) (B : FVec Ideal ⟨2, ![1024, 2048]⟩ .bf16)
variable (hA : ∀ c : Dev nD, m ((c : Thread nD τ).loc main_arg0) = Layout.block ⟨2, ![2048, 1024]⟩ ⟨2, ![8192, 1024]⟩ 0 4 c A tiles)
variable (hB : ∀ c : Dev nD, m ((c : Thread nD τ).loc main_arg1) = B)
include hA

/-- An element of a device's block is the whole matrix's, in its row. -/
theorem block_at (c : Dev nD) (x : S2048x1024.Idx) (y : (⟨2, ![8192, 1024]⟩ : Shape).Idx) (h0 : (y 0).val = 2048 * c.val + (x 0).val) (h1 : (y 1).val = (x 1).val) :
    astg m ρ c x = A y := by
  rw [astg_eq, hA]
  refine congrArg A (funext fun a => Fin.ext ?_)
  match a with
  | ⟨0, _⟩ => exact ((Layout.idx_rows_val tiles c x).1.trans ((congrArg (· + (x 0).val) (Nat.mul_comm c.val 2048)).trans h0.symm))
  | ⟨1, _⟩ => exact ((Layout.idx_rows_val tiles c x).2.trans h1.symm)

/-- So is an element of its first half, -/
theorem lo_at (c : Dev nD) (x : S1024x1024.Idx) (y : (⟨2, ![8192, 1024]⟩ : Shape).Idx) (h0 : (y 0).val = 2048 * c.val + (x 0).val) (h1 : (y 1).val = (x 1).val) :
    lo (astg m ρ c) x = A y :=
  block_at m ρ A hA c _ y
    (h0.trans (congrArg (2048 * c.val + ·) ((at_rows (n := 0) rfl x).1.trans (Nat.zero_add _)).symm))
    (h1.trans (at_rows (n := 0) rfl x).2.symm)
/-- and of its second half. -/
theorem hi_at (c : Dev nD) (x : S1024x1024.Idx) (y : (⟨2, ![8192, 1024]⟩ : Shape).Idx) (h0 : (y 0).val = 2048 * c.val + 1024 + (x 0).val) (h1 : (y 1).val = (x 1).val) :
    hi (astg m ρ c) x = A y :=
  block_at m ρ A hA c _ y
    (h0.trans ((Nat.add_assoc _ _ _).trans (congrArg (2048 * c.val + ·) (at_rows (n := 1024) rfl x).1.symm)))
    (h1.trans (at_rows (n := 1024) rfl x).2.symm)

include hB in
/-- The first half of a device's block times the second factor, in its place, is the product's. -/
theorem piece_lo (d : Dev nD) {n : ℕ} (hn : n = 2048 * d.val) {off : Fin 2 → Nat} {inb : ∀ a, off a + S1024x2048.size a ≤ S8192x2048.size a}
    (h : off = ![n, 0]) (c : Dev nD) (j : S1024x2048.Idx) :
    k0_pay2 (lo (astg m ρ d)) (bstg m ρ c) j = product A B ((Rect.unit (s := S8192x2048) off S1024x2048.size inb).emb j) := by
  unfold k0_pay2
  simp only [shapeCast_self, bstg_eq, hB]
  refine (entry (lo (astg m ρ d)) B j).trans (rows A B _ (lo_at m ρ A hA d) j _ ?_ ?_)
  · exact hn ▸ (at_rows h j).1
  · exact (at_rows h j).2
include hB in
/-- So is the second half, -/
theorem piece_hi (d : Dev nD) {n : ℕ} (hn : n = 2048 * d.val + 1024) {off : Fin 2 → Nat} {inb : ∀ a, off a + S1024x2048.size a ≤ S8192x2048.size a}
    (h : off = ![n, 0]) (c : Dev nD) (j : S1024x2048.Idx) :
    k0_pay2 (hi (astg m ρ d)) (bstg m ρ c) j = product A B ((Rect.unit (s := S8192x2048) off S1024x2048.size inb).emb j) := by
  unfold k0_pay2
  simp only [shapeCast_self, bstg_eq, hB]
  refine (entry (hi (astg m ρ d)) B j).trans (rows A B _ (hi_at m ρ A hA d) j _ ?_ ?_)
  · exact hn ▸ (at_rows h j).1
  · exact (at_rows h j).2
include hB in
/-- and the device's own block. -/
theorem piece_own (c : Dev nD) (j : S2048x2048.Idx) :
    k0_pay1 (astg m ρ c) (bstg m ρ c) j = product A B ((R1 c).emb j) := by
  unfold k0_pay1
  simp only [shapeCast_self, bstg_eq, hB]
  exact (entry (astg m ρ c) B j).trans (rows A B _ (block_at m ρ A hA c) j _ (at_rows (k0_off1_eq c) j).1 (at_rows (k0_off1_eq c) j).2)

include hB in
/-- Every device's result is the product of the whole matrices. -/
theorem result (c : Dev nD) : outAt m ρ c = product A B := by
  have hc : c.val < 4 := c.isLt
  have o4 : ((prv (prv c)).val) = (c.val + 1 + 1) % 4 := by show ((c.val + 3) % 4 + 3) % 4 = _; omega
  have o5 : ((nxt (nxt c)).val) = (c.val + 1 + 1) % 4 := by show ((c.val + 1) % 4 + 1) % 4 = _; omega
  refine outFrom_target m ρ c _ (product A B) (piece_own m ρ A B hA hB c) ?_ ?_ ?_ ?_ ?_ ?_
  · exact piece_lo m ρ A B hA hB (prv c) rfl (k0_off2_eq c) c
  · exact piece_hi m ρ A B hA hB (nxt c) rfl (off3_one c) c
  · exact piece_hi m ρ A B hA hB (prv c) rfl (k0_off4_eq c) c
  · exact piece_lo m ρ A B hA hB (nxt c) rfl (off5_one c) c
  · exact piece_lo m ρ A B hA hB (prv (prv c)) (congrArg _ o4.symm) (off5_two c) c
  · exact piece_hi m ρ A B hA hB (nxt (nxt c)) (congrArg (2048 * · + 1024) o5.symm) (off3_two c) c

end Result

end Cert.KernelIdeal.Exchange

end
-- ==== Proof.lean ====
/-
# The claims

Each of the three programs ends with its arguments kept and its semaphores at zero; the kernel over exact numbers
is the compiled kernel with the floats made exact; and over exact numbers every device ends with the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Value
public import Idealize.ShloMosaic.Lib.MatmulPlain
public import Idealize.ShloMosaic.Lib.StackMember
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends with its arguments kept and every semaphore at zero, as compiled, -/
theorem frame_kernel : Cert.quiescent_Kernel := fun m ρ _ => Cert.Kernel.Exchange.run_frame (F := Bits) m ρ

/-- and over exact numbers. -/
theorem frame_kernelIdeal : Cert.quiescent_KernelIdeal := fun m ρ _ => Cert.KernelIdeal.Exchange.run_frame (F := Ideal) m ρ

/-- So does the reference, which has no semaphores. -/
theorem frame_referenceIdeal : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-- What the reference computes over exact numbers is the product of the two matrices. -/
theorem reference_eq (A : FVec Ideal ⟨2, ![8192, 1024]⟩ .bf16) (B : FVec Ideal ⟨2, ![1024, 2048]⟩ .bf16) :
    (truncf .bf16 (Host.dotGeneral Cert.ReferenceIdeal.dot_S8192x1024_S1024x2048_S8192x2048_1_0_0_1_n_n none A B)
      Cert.ReferenceIdeal.Gen.bitsLt_bf16_f32 : FVec Ideal ⟨2, ![8192, 2048]⟩ .bf16) = Cert.KernelIdeal.Exchange.product A B := by
  funext i
  rw [ValueIdx.truncf_apply]
  conv_lhs => rw [ValueIdx.eq_ix2 i]
  exact StackMember.dotGeneral_plain_apply none A B (i 0) (i 1)

/-- Over exact numbers every device's result is the reference's. -/
theorem algebraic : Cert.algebraic_KernelIdeal_ReferenceIdeal := by
  intro m g m' g' _ h
  refine ⟨Cert.KernelIdeal.Exchange.product (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ hr c => ⟨?_, ?_, ?_⟩) (Cert.KernelIdeal.Exchange.run_main (F := Ideal) m g)
    · exact ((hr.1 c (2 : Fin 3)).trans (Cert.KernelIdeal.Exchange.final_out m g c)).trans
        (Cert.KernelIdeal.Exchange.result m g _ _ (fun c => (h c).1) (fun c => (h c).2) c)
    · exact (hr.1 c (0 : Fin 3)).trans (Cert.KernelIdeal.Exchange.final_arg0 m g c)
    · exact (hr.1 c (1 : Fin 3)).trans (Cert.KernelIdeal.Exchange.final_arg1 m g c)
  · exact (θ_run Cert.ReferenceIdeal.defs _ _).mono (fun _ hr => ⟨(hr 0).1.trans (reference_eq _ _), (hr 0).2⟩)
      (Cert.ReferenceIdeal.Value.run (F := Ideal) m' g')

/-- Everything claimed. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
